-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![32768, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![32768, 256]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 256]⟩ ⟨2, ![32768, 256]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![32768, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn {F : FTy → Type} [FloatOps F] (main_arg0 : FVec F S2048x256 .f32) (main_arg1 : FVec F S2048x256 .f32) (main_arg2 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  main_v8
-- ==== Pre_finite_qk_ReferenceIdeal.lean ====
abbrev S32768x256 : Shape := ⟨2, ![32768, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x256 .f32) (main_arg1 : FVec F S32768x256 .f32) (main_arg2 : FVec F S32768x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  main_v8
-- ==== Kernel.lean ====
abbrev S2048x256 : Shape := ⟨2, ![2048, 256]⟩
abbrev S2x2x2048x256 : Shape := ⟨4, ![2, 2, 2048, 256]⟩
abbrev S2048x1 : Shape := ⟨2, ![2048, 1]⟩
abbrev S2 : Shape := ⟨1, ![2]⟩
abbrev S_ : Shape := ⟨0, ![]⟩
abbrev S1x2048x256 : Shape := ⟨3, ![1, 2048, 256]⟩
abbrev S2x2048x256 : Shape := ⟨3, ![2, 2048, 256]⟩
abbrev S1x2x2048x256 : Shape := ⟨4, ![1, 2, 2048, 256]⟩
abbrev S1 : Shape := ⟨1, ![1]⟩
abbrev S1x1x2048x256 : Shape := ⟨4, ![1, 1, 2048, 256]⟩
abbrev S512x256 : Shape := ⟨2, ![512, 256]⟩
abbrev S512x2048 : Shape := ⟨2, ![512, 2048]⟩
abbrev S512x1 : Shape := ⟨2, ![512, 1]⟩
abbrev S512 : Shape := ⟨1, ![512]⟩

abbrev nBuf : Space → Nat
  | .hbm => 4
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2x2x2048x256, .bf16⟩
  | .local _ .vmem, ⟨5, _⟩ => ⟨S2x2x2048x256, .bf16⟩
  | .local _ .vmem, ⟨6, _⟩ => ⟨S2048x256, .bf16⟩
  | .local _ .vmem, ⟨7, _⟩ => ⟨S2048x256, .f32⟩
  | .local _ .vmem, ⟨8, _⟩ => ⟨S2048x1, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 3 12 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c0_i32_8 : BitVec 32 := 0#32
  let v19 : BitVec 1 := Scalar.cmpi .sgt v4 c0_i32_8
  let c4_i32_9 : BitVec 32 := 4#32
  let v20 : BitVec 32 := Scalar.subi v2 c4_i32_9
  let c0_i32_10 : BitVec 32 := 0#32
  let v21 : BitVec 1 := Scalar.cmpi .eq v3 c0_i32_10
  let c1_i32_11 : BitVec 32 := 1#32
  let c3_i32_12 : BitVec 32 := 3#32
  let v22 : BitVec 32 := Scalar.select v21 c1_i32_11 c3_i32_12
  let v23 : BitVec 32 := Scalar.select v19 v20 v22
  let c3_i32_13 : BitVec 32 := 3#32
  let v24 : BitVec 1 := Scalar.cmpi .slt v4 c3_i32_13
  let c4_i32_14 : BitVec 32 := 4#32
  let v25 : BitVec 32 := Scalar.addi v2 c4_i32_14
  let c3_i32_15 : BitVec 32 := 3#32
  let v26 : BitVec 1 := Scalar.cmpi .eq v3 c3_i32_15
  let c12_i32 : BitVec 32 := 12#32
  let c14_i32 : BitVec 32 := 14#32
  let v27 : BitVec 32 := Scalar.select v26 c12_i32 c14_i32
  let v28 : BitVec 32 := Scalar.select v24 v25 v27
  let v29 : BitVec 32 := Scalar.select v7 v23 v28
  let c1_i32_17 : BitVec 32 := 1#32
  let v31 : BitVec 32 := Scalar.muli v29 c1_i32_17
  let v32 : BitVec 32 := Scalar.addi c0_i32_18 v31
  v32.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c3_i32 : BitVec 32 := 3#32
  let v8 : BitVec 1 := Scalar.cmpi .slt v4 c3_i32
  let c4_i32_1 : BitVec 32 := 4#32
  let v9 : BitVec 32 := Scalar.addi v2 c4_i32_1
  let c0_i32_2 : BitVec 32 := 0#32
  let v10 : BitVec 1 := Scalar.cmpi .eq v3 c0_i32_2
  let c15_i32 : BitVec 32 := 15#32
  let c13_i32 : BitVec 32 := 13#32
  let v11 : BitVec 32 := Scalar.select v10 c15_i32 c13_i32
  let v12 : BitVec 32 := Scalar.select v8 v9 v11
  let c0_i32_3 : BitVec 32 := 0#32
  let v13 : BitVec 1 := Scalar.cmpi .sgt v4 c0_i32_3
  let c4_i32_4 : BitVec 32 := 4#32
  let v14 : BitVec 32 := Scalar.subi v2 c4_i32_4
  let c3_i32_5 : BitVec 32 := 3#32
  let v15 : BitVec 1 := Scalar.cmpi .eq v3 c3_i32_5
  let c2_i32_6 : BitVec 32 := 2#32
  let c0_i32_7 : BitVec 32 := 0#32
  let v16 : BitVec 32 := Scalar.select v15 c2_i32_6 c0_i32_7
  let v17 : BitVec 32 := Scalar.select v13 v14 v16
  let v18 : BitVec 32 := Scalar.select v7 v12 v17
  let c1_i32_20 : BitVec 32 := 1#32
  let v33 : BitVec 32 := Scalar.muli v18 c1_i32_20
  let v34 : BitVec 32 := Scalar.addi c0_i32_21 v33
  v34.toNat
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c3_i32 : BitVec 32 := 3#32
  let v8 : BitVec 1 := Scalar.cmpi .slt v4 c3_i32
  let c4_i32_1 : BitVec 32 := 4#32
  let v9 : BitVec 32 := Scalar.addi v2 c4_i32_1
  let c0_i32_2 : BitVec 32 := 0#32
  let v10 : BitVec 1 := Scalar.cmpi .eq v3 c0_i32_2
  let c15_i32 : BitVec 32 := 15#32
  let c13_i32 : BitVec 32 := 13#32
  let v11 : BitVec 32 := Scalar.select v10 c15_i32 c13_i32
  let v12 : BitVec 32 := Scalar.select v8 v9 v11
  let c0_i32_3 : BitVec 32 := 0#32
  let v13 : BitVec 1 := Scalar.cmpi .sgt v4 c0_i32_3
  let c4_i32_4 : BitVec 32 := 4#32
  let v14 : BitVec 32 := Scalar.subi v2 c4_i32_4
  let c3_i32_5 : BitVec 32 := 3#32
  let v15 : BitVec 1 := Scalar.cmpi .eq v3 c3_i32_5
  let c2_i32_6 : BitVec 32 := 2#32
  let c0_i32_7 : BitVec 32 := 0#32
  let v16 : BitVec 32 := Scalar.select v15 c2_i32_6 c0_i32_7
  let v17 : BitVec 32 := Scalar.select v13 v14 v16
  let v18 : BitVec 32 := Scalar.select v7 v12 v17
  let c1_i32_47 : BitVec 32 := 1#32
  let v64 : BitVec 32 := Scalar.muli v18 c1_i32_47
  let v65 : BitVec 32 := Scalar.addi c0_i32_48 v64
  v65.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c0_i32_8 : BitVec 32 := 0#32
  let v19 : BitVec 1 := Scalar.cmpi .sgt v4 c0_i32_8
  let c4_i32_9 : BitVec 32 := 4#32
  let v20 : BitVec 32 := Scalar.subi v2 c4_i32_9
  let c0_i32_10 : BitVec 32 := 0#32
  let v21 : BitVec 1 := Scalar.cmpi .eq v3 c0_i32_10
  let c1_i32_11 : BitVec 32 := 1#32
  let c3_i32_12 : BitVec 32 := 3#32
  let v22 : BitVec 32 := Scalar.select v21 c1_i32_11 c3_i32_12
  let v23 : BitVec 32 := Scalar.select v19 v20 v22
  let c3_i32_13 : BitVec 32 := 3#32
  let v24 : BitVec 1 := Scalar.cmpi .slt v4 c3_i32_13
  let c4_i32_14 : BitVec 32 := 4#32
  let v25 : BitVec 32 := Scalar.addi v2 c4_i32_14
  let c3_i32_15 : BitVec 32 := 3#32
  let v26 : BitVec 1 := Scalar.cmpi .eq v3 c3_i32_15
  let c12_i32 : BitVec 32 := 12#32
  let c14_i32 : BitVec 32 := 14#32
  let v27 : BitVec 32 := Scalar.select v26 c12_i32 c14_i32
  let v28 : BitVec 32 := Scalar.select v24 v25 v27
  let v29 : BitVec 32 := Scalar.select v7 v23 v28
  let c1_i32_59 : BitVec 32 := 1#32
  let v74 : BitVec 32 := Scalar.muli v29 c1_i32_59
  let v75 : BitVec 32 := Scalar.addi c0_i32_60 v74
  v75.toNat
def k0_dev5 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c0_i32_8 : BitVec 32 := 0#32
  let v19 : BitVec 1 := Scalar.cmpi .sgt v4 c0_i32_8
  let c4_i32_9 : BitVec 32 := 4#32
  let v20 : BitVec 32 := Scalar.subi v2 c4_i32_9
  let c0_i32_10 : BitVec 32 := 0#32
  let v21 : BitVec 1 := Scalar.cmpi .eq v3 c0_i32_10
  let c1_i32_11 : BitVec 32 := 1#32
  let c3_i32_12 : BitVec 32 := 3#32
  let v22 : BitVec 32 := Scalar.select v21 c1_i32_11 c3_i32_12
  let v23 : BitVec 32 := Scalar.select v19 v20 v22
  let c3_i32_13 : BitVec 32 := 3#32
  let v24 : BitVec 1 := Scalar.cmpi .slt v4 c3_i32_13
  let c4_i32_14 : BitVec 32 := 4#32
  let v25 : BitVec 32 := Scalar.addi v2 c4_i32_14
  let c3_i32_15 : BitVec 32 := 3#32
  let v26 : BitVec 1 := Scalar.cmpi .eq v3 c3_i32_15
  let c12_i32 : BitVec 32 := 12#32
  let c14_i32 : BitVec 32 := 14#32
  let v27 : BitVec 32 := Scalar.select v26 c12_i32 c14_i32
  let v28 : BitVec 32 := Scalar.select v24 v25 v27
  let v29 : BitVec 32 := Scalar.select v7 v23 v28
  let c1_i32_150 : BitVec 32 := 1#32
  let v176 : BitVec 32 := Scalar.muli v29 c1_i32_150
  let v177 : BitVec 32 := Scalar.addi c0_i32_151 v176
  v177.toNat
def k0_dev6 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c3_i32 : BitVec 32 := 3#32
  let v8 : BitVec 1 := Scalar.cmpi .slt v4 c3_i32
  let c4_i32_1 : BitVec 32 := 4#32
  let v9 : BitVec 32 := Scalar.addi v2 c4_i32_1
  let c0_i32_2 : BitVec 32 := 0#32
  let v10 : BitVec 1 := Scalar.cmpi .eq v3 c0_i32_2
  let c15_i32 : BitVec 32 := 15#32
  let c13_i32 : BitVec 32 := 13#32
  let v11 : BitVec 32 := Scalar.select v10 c15_i32 c13_i32
  let v12 : BitVec 32 := Scalar.select v8 v9 v11
  let c0_i32_3 : BitVec 32 := 0#32
  let v13 : BitVec 1 := Scalar.cmpi .sgt v4 c0_i32_3
  let c4_i32_4 : BitVec 32 := 4#32
  let v14 : BitVec 32 := Scalar.subi v2 c4_i32_4
  let c3_i32_5 : BitVec 32 := 3#32
  let v15 : BitVec 1 := Scalar.cmpi .eq v3 c3_i32_5
  let c2_i32_6 : BitVec 32 := 2#32
  let c0_i32_7 : BitVec 32 := 0#32
  let v16 : BitVec 32 := Scalar.select v15 c2_i32_6 c0_i32_7
  let v17 : BitVec 32 := Scalar.select v13 v14 v16
  let v18 : BitVec 32 := Scalar.select v7 v12 v17
  let c1_i32_153 : BitVec 32 := 1#32
  let v178 : BitVec 32 := Scalar.muli v18 c1_i32_153
  let v179 : BitVec 32 := Scalar.addi c0_i32_154 v178
  v179.toNat
@[reducible] def k0_t1_loop : Scf.Loop 32 :=
  let c1_i32_155 : BitVec 32 := 1#32
  let c8_i32 : BitVec 32 := 8#32
  let v180 : BitVec 32 := Scalar.addi c1_i32_155 c8_i32
  let c1_i32_156 : BitVec 32 := 1#32
  ⟨c1_i32_155, v180, c1_i32_156⟩
def k0_off1 (k0_t1 : Fin k0_t1_loop.trips) : Fin 1 → Nat :=
  let c1_i32_167 : BitVec 32 := 1#32
  let c1_i32_165 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v187 : BitVec 32 := Scalar.subi c1_i32_165 v186
  let v189 : BitVec 32 := Scalar.subi c1_i32_167 v187
  ![v189.toNat]
def k0_off2 (k0_t1 : Fin k0_t1_loop.trips) : Fin 4 → Nat :=
  let c1_i32_166 : BitVec 32 := 1#32
  let c1_i32_165 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v187 : BitVec 32 := Scalar.subi c1_i32_165 v186
  let v188 : BitVec 32 := Scalar.subi c1_i32_166 v187
  let c0_i32_170 : BitVec 32 := 0#32
  let c0_i32_171 : BitVec 32 := 0#32
  let c0_i32_172 : BitVec 32 := 0#32
  ![v188.toNat, 0, 0, 0]
def k0_off3 (k0_t1 : Fin k0_t1_loop.trips) : Fin 4 → Nat :=
  let c1_i32_165 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v187 : BitVec 32 := Scalar.subi c1_i32_165 v186
  let c0_i32_173 : BitVec 32 := 0#32
  let c0_i32_174 : BitVec 32 := 0#32
  let c0_i32_175 : BitVec 32 := 0#32
  ![v187.toNat, 0, 0, 0]
def k0_cond1 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c8_i32_176 : BitVec 32 := 8#32
  let v198 : BitVec 1 := Scalar.cmpi .slt arg15 c8_i32_176
  let v199 : BitVec 32 := Scalar.extui v198
  let c0_i32_177 : BitVec 32 := 0#32
  let v200 : BitVec 1 := Scalar.cmpi .ne v199 c0_i32_177
  v200

def k0_off4 (k0_t1 : Fin k0_t1_loop.trips) : Fin 1 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  ![v186.toNat]
def k0_off5 (k0_t1 : Fin k0_t1_loop.trips) : Fin 1 → Nat :=
  let c1_i32_255 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v305 : BitVec 32 := Scalar.subi c1_i32_255 v186
  ![v305.toNat]
def k0_off6 (k0_t1 : Fin k0_t1_loop.trips) : Fin 4 → Nat :=
  let c1_i32_254 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_254 v186
  let c0_i32_258 : BitVec 32 := 0#32
  let c0_i32_259 : BitVec 32 := 0#32
  let c0_i32_260 : BitVec 32 := 0#32
  ![v304.toNat, 0, 0, 0]
def k0_off7 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let c0_i32_261 : BitVec 32 := 0#32
  let c0_i32_262 : BitVec 32 := 0#32
  let c0_i32_263 : BitVec 32 := 0#32
  ![v186.toNat, 0, 0, 0]
def k0_dev7 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c3_i32 : BitVec 32 := 3#32
  let v8 : BitVec 1 := Scalar.cmpi .slt v4 c3_i32
  let c4_i32_1 : BitVec 32 := 4#32
  let v9 : BitVec 32 := Scalar.addi v2 c4_i32_1
  let c0_i32_2 : BitVec 32 := 0#32
  let v10 : BitVec 1 := Scalar.cmpi .eq v3 c0_i32_2
  let c15_i32 : BitVec 32 := 15#32
  let c13_i32 : BitVec 32 := 13#32
  let v11 : BitVec 32 := Scalar.select v10 c15_i32 c13_i32
  let v12 : BitVec 32 := Scalar.select v8 v9 v11
  let c0_i32_3 : BitVec 32 := 0#32
  let v13 : BitVec 1 := Scalar.cmpi .sgt v4 c0_i32_3
  let c4_i32_4 : BitVec 32 := 4#32
  let v14 : BitVec 32 := Scalar.subi v2 c4_i32_4
  let c3_i32_5 : BitVec 32 := 3#32
  let v15 : BitVec 1 := Scalar.cmpi .eq v3 c3_i32_5
  let c2_i32_6 : BitVec 32 := 2#32
  let c0_i32_7 : BitVec 32 := 0#32
  let v16 : BitVec 32 := Scalar.select v15 c2_i32_6 c0_i32_7
  let v17 : BitVec 32 := Scalar.select v13 v14 v16
  let v18 : BitVec 32 := Scalar.select v7 v12 v17
  let c1_i32_256 : BitVec 32 := 1#32
  let v306 : BitVec 32 := Scalar.muli v18 c1_i32_256
  let v307 : BitVec 32 := Scalar.addi c0_i32_257 v306
  v307.toNat
def k0_cond2 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c7_i32 : BitVec 32 := 7#32
  let v201 : BitVec 1 := Scalar.cmpi .sle arg15 c7_i32
  let v202 : BitVec 32 := Scalar.extui v201
  let c0_i32_178 : BitVec 32 := 0#32
  let v203 : BitVec 1 := Scalar.cmpi .ne v202 c0_i32_178
  v203

def k0_off8 (k0_t1 : Fin k0_t1_loop.trips) : Fin 1 → Nat :=
  let c1_i32_254 : BitVec 32 := 1#32
  let c1_i32_252 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_252 v186
  let v306 : BitVec 32 := Scalar.subi c1_i32_254 v304
  ![v306.toNat]
def k0_off9 (k0_t1 : Fin k0_t1_loop.trips) : Fin 4 → Nat :=
  let c1_i32_253 : BitVec 32 := 1#32
  let c1_i32_252 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_252 v186
  let v305 : BitVec 32 := Scalar.subi c1_i32_253 v304
  let c0_i32_257 : BitVec 32 := 0#32
  let c0_i32_258 : BitVec 32 := 0#32
  let c0_i32_259 : BitVec 32 := 0#32
  ![v305.toNat, 0, 0, 0]
def k0_off10 (k0_t1 : Fin k0_t1_loop.trips) : Fin 4 → Nat :=
  let c1_i32_252 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_252 v186
  let c0_i32_260 : BitVec 32 := 0#32
  let c0_i32_261 : BitVec 32 := 0#32
  let c0_i32_262 : BitVec 32 := 0#32
  ![v304.toNat, 0, 0, 0]
def k0_cond3 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c7_i32_179 : BitVec 32 := 7#32
  let v204 : BitVec 1 := Scalar.cmpi .slt arg15 c7_i32_179
  let v205 : BitVec 32 := Scalar.extui v204
  let c0_i32_180 : BitVec 32 := 0#32
  let v206 : BitVec 1 := Scalar.cmpi .ne v205 c0_i32_180
  v206

def k0_off11 (k0_t1 : Fin k0_t1_loop.trips) : Fin 1 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  ![v186.toNat]
def k0_off12 (k0_t1 : Fin k0_t1_loop.trips) : Fin 1 → Nat :=
  let c1_i32_255 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v305 : BitVec 32 := Scalar.subi c1_i32_255 v186
  ![v305.toNat]
def k0_off13 (k0_t1 : Fin k0_t1_loop.trips) : Fin 4 → Nat :=
  let c1_i32_254 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_254 v186
  let c0_i32_258 : BitVec 32 := 0#32
  let c0_i32_259 : BitVec 32 := 0#32
  let c0_i32_260 : BitVec 32 := 0#32
  ![v304.toNat, 0, 0, 0]
def k0_off14 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let c0_i32_261 : BitVec 32 := 0#32
  let c0_i32_262 : BitVec 32 := 0#32
  let c0_i32_263 : BitVec 32 := 0#32
  ![v186.toNat, 0, 0, 0]
def k0_dev8 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c0_i32_8 : BitVec 32 := 0#32
  let v19 : BitVec 1 := Scalar.cmpi .sgt v4 c0_i32_8
  let c4_i32_9 : BitVec 32 := 4#32
  let v20 : BitVec 32 := Scalar.subi v2 c4_i32_9
  let c0_i32_10 : BitVec 32 := 0#32
  let v21 : BitVec 1 := Scalar.cmpi .eq v3 c0_i32_10
  let c1_i32_11 : BitVec 32 := 1#32
  let c3_i32_12 : BitVec 32 := 3#32
  let v22 : BitVec 32 := Scalar.select v21 c1_i32_11 c3_i32_12
  let v23 : BitVec 32 := Scalar.select v19 v20 v22
  let c3_i32_13 : BitVec 32 := 3#32
  let v24 : BitVec 1 := Scalar.cmpi .slt v4 c3_i32_13
  let c4_i32_14 : BitVec 32 := 4#32
  let v25 : BitVec 32 := Scalar.addi v2 c4_i32_14
  let c3_i32_15 : BitVec 32 := 3#32
  let v26 : BitVec 1 := Scalar.cmpi .eq v3 c3_i32_15
  let c12_i32 : BitVec 32 := 12#32
  let c14_i32 : BitVec 32 := 14#32
  let v27 : BitVec 32 := Scalar.select v26 c12_i32 c14_i32
  let v28 : BitVec 32 := Scalar.select v24 v25 v27
  let v29 : BitVec 32 := Scalar.select v7 v23 v28
  let c1_i32_256 : BitVec 32 := 1#32
  let v306 : BitVec 32 := Scalar.muli v29 c1_i32_256
  let v307 : BitVec 32 := Scalar.addi c0_i32_257 v306
  v307.toNat
def k0_off15 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v207 : Index := Scalar.indexCast v186
  let c0_181 : Index := 0#32
  let c0_182 : Index := 0#32
  let c0_183 : Index := 0#32
  ![v207.toNat, 0, 0, 0]
def k0_off16 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v210 : Index := Scalar.indexCast v186
  let c1_184 : Index := 1#32
  let c0_185 : Index := 0#32
  let c0_186 : Index := 0#32
  ![v210.toNat, 1, 0, 0]
def k0_cond4 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c7_i32_243 : BitVec 32 := 7#32
  let v289 : BitVec 1 := Scalar.cmpi .sle arg15 c7_i32_243
  let v290 : BitVec 32 := Scalar.extui v289
  let c0_i32_244 : BitVec 32 := 0#32
  let v291 : BitVec 1 := Scalar.cmpi .ne v290 c0_i32_244
  v291

def k0_off17 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : Index := Scalar.indexCast v186
  let c0_252 : Index := 0#32
  let c0_253 : Index := 0#32
  let c0_254 : Index := 0#32
  ![v304.toNat, 0, 0, 0]
def k0_off18 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v307 : Index := Scalar.indexCast v186
  let c1_255 : Index := 1#32
  let c0_256 : Index := 0#32
  let c0_257 : Index := 0#32
  ![v307.toNat, 1, 0, 0]
def k0_cond5 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c8_i32_245 : BitVec 32 := 8#32
  let v292 : BitVec 1 := Scalar.cmpi .slt arg15 c8_i32_245
  let v293 : BitVec 32 := Scalar.extui v292
  let c0_i32_246 : BitVec 32 := 0#32
  let v294 : BitVec 1 := Scalar.cmpi .ne v293 c0_i32_246
  v294

def k0_off19 (k0_t1 : Fin k0_t1_loop.trips) : Fin 1 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  ![v186.toNat]
def k0_off20 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let c0_i32_255 : BitVec 32 := 0#32
  let c0_i32_256 : BitVec 32 := 0#32
  let c0_i32_257 : BitVec 32 := 0#32
  ![v186.toNat, 0, 0, 0]
def k0_off21 (k0_t1 : Fin k0_t1_loop.trips) : Fin 4 → Nat :=
  let c1_i32_252 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_252 v186
  let c0_i32_258 : BitVec 32 := 0#32
  let c0_i32_259 : BitVec 32 := 0#32
  let c0_i32_260 : BitVec 32 := 0#32
  ![v304.toNat, 0, 0, 0]
def k0_cond6 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c7_i32_247 : BitVec 32 := 7#32
  let v295 : BitVec 1 := Scalar.cmpi .slt arg15 c7_i32_247
  let v296 : BitVec 32 := Scalar.extui v295
  let c0_i32_248 : BitVec 32 := 0#32
  let v297 : BitVec 1 := Scalar.cmpi .ne v296 c0_i32_248
  v297

def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c0_i32_8 : BitVec 32 := 0#32
  let v19 : BitVec 1 := Scalar.cmpi .sgt v4 c0_i32_8
  let c4_i32_9 : BitVec 32 := 4#32
  let v20 : BitVec 32 := Scalar.subi v2 c4_i32_9
  let c0_i32_10 : BitVec 32 := 0#32
  let v21 : BitVec 1 := Scalar.cmpi .eq v3 c0_i32_10
  let c1_i32_11 : BitVec 32 := 1#32
  let c3_i32_12 : BitVec 32 := 3#32
  let v22 : BitVec 32 := Scalar.select v21 c1_i32_11 c3_i32_12
  let v23 : BitVec 32 := Scalar.select v19 v20 v22
  let c3_i32_13 : BitVec 32 := 3#32
  let v24 : BitVec 1 := Scalar.cmpi .slt v4 c3_i32_13
  let c4_i32_14 : BitVec 32 := 4#32
  let v25 : BitVec 32 := Scalar.addi v2 c4_i32_14
  let c3_i32_15 : BitVec 32 := 3#32
  let v26 : BitVec 1 := Scalar.cmpi .eq v3 c3_i32_15
  let c12_i32 : BitVec 32 := 12#32
  let c14_i32 : BitVec 32 := 14#32
  let v27 : BitVec 32 := Scalar.select v26 c12_i32 c14_i32
  let v28 : BitVec 32 := Scalar.select v24 v25 v27
  let v29 : BitVec 32 := Scalar.select v7 v23 v28
  let c1_i32_253 : BitVec 32 := 1#32
  let v304 : BitVec 32 := Scalar.muli v29 c1_i32_253
  let v305 : BitVec 32 := Scalar.addi c0_i32_254 v304
  v305.toNat
def k0_cond7 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c7_i32_249 : BitVec 32 := 7#32
  let v298 : BitVec 1 := Scalar.cmpi .slt arg15 c7_i32_249
  let v299 : BitVec 32 := Scalar.extui v298
  let c0_i32_250 : BitVec 32 := 0#32
  let v300 : BitVec 1 := Scalar.cmpi .ne v299 c0_i32_250
  v300

def k0_off22 (k0_t1 : Fin k0_t1_loop.trips) : Fin 1 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  ![v186.toNat]
def k0_off23 (k0_t1 : Fin k0_t1_loop.trips) : Fin 4 → Nat :=
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let c0_i32_255 : BitVec 32 := 0#32
  let c0_i32_256 : BitVec 32 := 0#32
  let c0_i32_257 : BitVec 32 := 0#32
  ![v186.toNat, 0, 0, 0]
def k0_off24 (k0_t1 : Fin k0_t1_loop.trips) : Fin 4 → Nat :=
  let c1_i32_252 : BitVec 32 := 1#32
  let c1_i32_155 : BitVec 32 := 1#32
  let c1_i32_156 : BitVec 32 := 1#32
  let arg15 : BitVec 32 := Scf.iv c1_i32_155 c1_i32_156 k0_t1
  let c2_i32_164 : BitVec 32 := 2#32
  let v186 : BitVec 32 := Scalar.remsi arg15 c2_i32_164
  let v304 : BitVec 32 := Scalar.subi c1_i32_252 v186
  let c0_i32_258 : BitVec 32 := 0#32
  let c0_i32_259 : BitVec 32 := 0#32
  let c0_i32_260 : BitVec 32 := 0#32
  ![v304.toNat, 0, 0, 0]
def k0_cond8 (k0_t1 : Fin k0_t1_loop.trips) : BitVec 1 :=
  let c1_i32_155 : BitVec 32 := 1#32
  let c1_i32_156 : BitVec 32 := 1#32
  let arg15 : BitVec 32 := Scf.iv c1_i32_155 c1_i32_156 k0_t1
  let c6_i32 : BitVec 32 := 6#32
  let v301 : BitVec 1 := Scalar.cmpi .slt arg15 c6_i32
  let v302 : BitVec 32 := Scalar.extui v301
  let c0_i32_251 : BitVec 32 := 0#32
  let v303 : BitVec 1 := Scalar.cmpi .ne v302 c0_i32_251
  v303

def k0_dev10 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c0_i32 : BitVec 32 := 0#32
  let v5 : BitVec 1 := Scalar.cmpi .eq v3 c0_i32
  let c2_i32 : BitVec 32 := 2#32
  let v6 : BitVec 1 := Scalar.cmpi .eq v3 c2_i32
  let v7 : BitVec 1 := Scalar.ori v5 v6
  let c4_i32_0 : BitVec 32 := 4#32
  let v4 : BitVec 32 := Scalar.divsi v2 c4_i32_0
  let c3_i32 : BitVec 32 := 3#32
  let v8 : BitVec 1 := Scalar.cmpi .slt v4 c3_i32
  let c4_i32_1 : BitVec 32 := 4#32
  let v9 : BitVec 32 := Scalar.addi v2 c4_i32_1
  let c0_i32_2 : BitVec 32 := 0#32
  let v10 : BitVec 1 := Scalar.cmpi .eq v3 c0_i32_2
  let c15_i32 : BitVec 32 := 15#32
  let c13_i32 : BitVec 32 := 13#32
  let v11 : BitVec 32 := Scalar.select v10 c15_i32 c13_i32
  let v12 : BitVec 32 := Scalar.select v8 v9 v11
  let c0_i32_3 : BitVec 32 := 0#32
  let v13 : BitVec 1 := Scalar.cmpi .sgt v4 c0_i32_3
  let c4_i32_4 : BitVec 32 := 4#32
  let v14 : BitVec 32 := Scalar.subi v2 c4_i32_4
  let c3_i32_5 : BitVec 32 := 3#32
  let v15 : BitVec 1 := Scalar.cmpi .eq v3 c3_i32_5
  let c2_i32_6 : BitVec 32 := 2#32
  let c0_i32_7 : BitVec 32 := 0#32
  let v16 : BitVec 32 := Scalar.select v15 c2_i32_6 c0_i32_7
  let v17 : BitVec 32 := Scalar.select v13 v14 v16
  let v18 : BitVec 32 := Scalar.select v7 v12 v17
  let c1_i32_253 : BitVec 32 := 1#32
  let v304 : BitVec 32 := Scalar.muli v18 c1_i32_253
  let v305 : BitVec 32 := Scalar.addi c0_i32_254 v304
  v305.toNat
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x256 : Shape := ⟨2, ![32768, 256]⟩
abbrev S256x32768 : Shape := ⟨2, ![256, 32768]⟩
abbrev S32768x32768 : Shape := ⟨2, ![32768, 32768]⟩
abbrev S_ : Shape := ⟨0, ![]⟩
abbrev S32768 : Shape := ⟨1, ![32768]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S256x32768, .f32⟩
  | .hbm, ⟨4, _⟩ => ⟨S32768x32768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x32768, .f32⟩
  | .hbm, ⟨9, _⟩ => ⟨S32768x32768, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S32768x32768, .f32⟩
  | .hbm, ⟨14, _⟩ => ⟨S32768x32768, .f32⟩
  | .hbm, ⟨15, _⟩ => ⟨S32768x32768, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x32768, .f32⟩
  | .hbm, ⟨20, _⟩ => ⟨S32768x32768, .f32⟩
  | .hbm, ⟨21, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Ring.lean ====
/-
# The two rings of the kernel: neighbours, semaphores, memrefs

The sixteen devices form one cycle. Blocks of keys and values travel along it in both directions; a direction is a `Bool`,
`true` for the one the kernel calls right.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Release
public import Idealize.ShloMosaic.Lib.Rounds
public import Idealize.ShloMosaic.Lib.Tactic

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Neighbours -/

/-- The device a block sent in direction `d` goes to. -/
def nxt (d : Bool) (c : Dev nD) : Dev nD :=
  if d then (![4, 0, 6, 2, 8, 1, 10, 3, 12, 5, 14, 7, 15, 9, 13, 11] : Fin 16 → Fin 16) c
  else (![1, 5, 3, 7, 0, 9, 2, 11, 4, 13, 6, 15, 8, 14, 10, 12] : Fin 16 → Fin 16) c

/-- The device a block received in direction `d` comes from. -/
abbrev prv (d : Bool) (c : Dev nD) : Dev nD := nxt (!d) c

theorem nxt_prv (d : Bool) (c : Dev nD) : nxt d (prv d c) = c := by revert c d; decide
theorem prv_nxt (d : Bool) (c : Dev nD) : prv d (nxt d c) = c := by revert c d; decide

/-- A step along the ring as a permutation of the devices. -/
def ringE (d : Bool) : Dev nD ≃ Dev nD := ⟨nxt d, prv d, prv_nxt d, nxt_prv d⟩

theorem nxt_inj (d : Bool) {a b : Dev nD} (h : nxt d a = nxt d b) : a = b := (ringE d).injective h

/-! The kernel's chains of `device_id`, evaluated. -/

theorem dev1_eq (c : Dev nD) : (⟨k0_dev1 c, k0_dev1_lt c⟩ : Dev nD) = prv true c := by revert c; decide +kernel
theorem dev2_eq (c : Dev nD) : (⟨k0_dev2 c, k0_dev2_lt c⟩ : Dev nD) = prv false c := by revert c; decide +kernel
theorem dev3_eq (c : Dev nD) : (⟨k0_dev3 c, k0_dev3_lt c⟩ : Dev nD) = nxt true c := by revert c; decide +kernel
theorem dev4_eq (c : Dev nD) : (⟨k0_dev4 c, k0_dev4_lt c⟩ : Dev nD) = nxt false c := by revert c; decide +kernel
theorem dev5_eq (c : Dev nD) : (⟨k0_dev5 c, k0_dev5_lt c⟩ : Dev nD) = prv true c := by revert c; decide +kernel
theorem dev6_eq (c : Dev nD) : (⟨k0_dev6 c, k0_dev6_lt c⟩ : Dev nD) = prv false c := by revert c; decide +kernel
theorem dev7_eq (c : Dev nD) (t h) : (⟨k0_dev7 c, k0_dev7_lt c t h⟩ : Dev nD) = nxt true c :=
  Fin.ext (congrArg Fin.val (dev3_eq c))
theorem dev8_eq (c : Dev nD) (t h) : (⟨k0_dev8 c, k0_dev8_lt c t h⟩ : Dev nD) = nxt false c :=
  Fin.ext (congrArg Fin.val (dev4_eq c))
theorem dev9_eq (c : Dev nD) (t h) : (⟨k0_dev9 c, k0_dev9_lt c t h⟩ : Dev nD) = prv true c :=
  Fin.ext (congrArg Fin.val (dev5_eq c))
theorem dev10_eq (c : Dev nD) (t h) : (⟨k0_dev10 c, k0_dev10_lt c t h⟩ : Dev nD) = prv false c :=
  Fin.ext (congrArg Fin.val (dev6_eq c))

/-! ## Hops, slots -/

/-- How many transfers a device makes in direction `d`. -/
def hops (d : Bool) : ℕ := if d then 8 else 7

theorem hops_le (d : Bool) : hops d ≤ 8 := by cases d <;> decide
theorem hops_ge (d : Bool) : 7 ≤ hops d := by cases d <;> decide

/-- The slot round `r` works on. -/
def sr (r : ℕ) : Fin 2 := ⟨r % 2, Nat.mod_lt _ (by decide)⟩

theorem sr_add_two (r : ℕ) : sr (r + 2) = sr r := Fin.ext (by simp [sr])
theorem sr_inj_half {a b : ℕ} (h : sr a = sr b) (h' : a / 2 = b / 2) : a = b := by
  have := congrArg Fin.val h; simp only [sr] at this; omega

/-! ## Memrefs -/

abbrev kqM : Memref sig .tc .vmem S2048x256 .f32 := Memref.whole cc0_stg0_0
abbrev kkM : Memref sig .tc .vmem S2048x256 .f32 := Memref.whole cc0_stg1_0
abbrev kvM : Memref sig .tc .vmem S2048x256 .f32 := Memref.whole cc0_stg2_0
abbrev koM : Memref sig .tc .vmem S2048x256 .f32 := Memref.whole cc0_stg3_0
abbrev rM : Memref sig .tc .vmem S2x2x2048x256 .bf16 := Memref.whole cc0_scratch0
abbrev gM : Memref sig .tc .vmem S2x2x2048x256 .bf16 := Memref.whole cc0_scratch1
abbrev qM : Memref sig .tc .vmem S2048x256 .bf16 := Memref.whole cc0_scratch2
abbrev aM : Memref sig .tc .vmem S2048x256 .f32 := Memref.whole cc0_scratch3
abbrev lM : Memref sig .tc .vmem S2048x1 .f32 := Memref.whole cc0_scratch4

/-- The two-slot buffer of direction `d`. -/
def bufM (d : Bool) : Memref sig .tc .vmem S2x2x2048x256 .bf16 := match d with | true => rM | false => gM

theorem slot_inb (s : Fin 2) : ∀ i, (![s.val, 0, 0, 0] : Fin 4 → ℕ) i + S1x2x2048x256.size i ≤ S2x2x2048x256.size i := by
  revert s; decide

/-- Slot `s` of a two-slot buffer. -/
def slotM (M : Memref sig .tc .vmem S2x2x2048x256 .bf16) (s : Fin 2) : Memref sig .tc .vmem S2x2048x256 .bf16 :=
  (M.slice (Rect.unit (s := S2x2x2048x256) ![s.val, 0, 0, 0] S1x2x2048x256.size (slot_inb s)) (fun _ => rfl)).squeeze S2x2048x256
    squeezes_S1x2x2048x256_S2x2048x256

/-- The number of units a transfer of one slot credits. -/
abbrev N (d : Bool) : ℕ := (slotM (bufM d) 0).view.dmaCredit

theorem N_pos (d : Bool) : 0 < N d := View.dmaCredit_pos _ (by decide)
theorem N_slot (d : Bool) (s : Fin 2) : (slotM (bufM d) s).view.dmaCredit = N d := by cases d <;> rfl

/-! ## Semaphores -/

abbrev barS : Sem sig := (SemArray.scalar (sig.barrier 0 rfl) : Sems sig S_).sem

def sA (d : Bool) : DmaSems sig S2 := match d with | true => cc0_scratch5 | false => cc0_scratch7
def rA (d : Bool) : DmaSems sig S2 := match d with | true => cc0_scratch6 | false => cc0_scratch8
def kA (d : Bool) : Sems sig S_ := match d with | true => cc0_scratch9 | false => cc0_scratch10

theorem sem_inb (s : Fin 2) : ∀ i, (![s.val] : Fin 1 → ℕ) i + S1.size i ≤ S2.size i := by revert s; decide

/-- Entry `s` of a pair of semaphores. -/
def pick (A : DmaSems sig S2) (s : Fin 2) : DmaSem sig :=
  ((A.slice (Rect.unit (s := S2) ![s.val] S1.size (sem_inb s))).squeeze S_ squeezes_S1_S_).sem

/-- The semaphores a device owns: the barrier's, and per direction two send, two receive and one credit semaphore. -/
inductive Kind where
  | bar
  | send (d : Bool) (s : Fin 2)
  | recv (d : Bool) (s : Fin 2)
  | credit (d : Bool)
  deriving DecidableEq

/-- All of them, in a row: the barrier's first. -/
def kinds : List Kind :=
  [.bar, .send true 0, .send true 1, .recv true 0, .recv true 1, .send false 0, .send false 1, .recv false 0, .recv false 1, .credit true, .credit false]

theorem mem_kinds (k : Kind) : k ∈ kinds := by
  rcases k with _ | ⟨d, s⟩ | ⟨d, s⟩ | d <;> (try cases d) <;> (try fin_cases s) <;> decide

instance : Fintype Kind := Fintype.ofList kinds mem_kinds

def semOf : Kind → SemLoc sig
  | .bar => .reg barS
  | .send d s => .dma (pick (sA d) s)
  | .recv d s => .dma (pick (rA d) s)
  | .credit d => .reg (kA d).sem

theorem semOf_inj : Function.Injective semOf := by
  intro a b; revert a b; decide +kernel

open Classical in
/-- Which of them a semaphore is, if any. -/
def kindOf (sm : SemLoc sig) : Option Kind := if h : ∃ k, semOf k = sm then some h.choose else none

theorem kindOf_semOf (k : Kind) : kindOf (semOf k) = some k := by
  have h : ∃ k', semOf k' = semOf k := ⟨k, rfl⟩
  unfold kindOf; rw [dif_pos h]; exact congrArg some (semOf_inj h.choose_spec)

/-- The cell of device `c`'s semaphore `k`. -/
abbrev cell (c : Dev nD) (k : Kind) : GSem nD τ sig := ((c : Thread nD τ), semOf k)

theorem cell_inj {a b : Dev nD} {k k' : Kind} (h : cell a k = cell b k') : a = b ∧ k = k' :=
  ⟨congrArg (fun g : GSem nD τ sig => g.1.1) h, semOf_inj (congrArg Prod.snd h)⟩

/-! ## The loop's conditions and offsets -/

theorem trips_eq : k0_t1_loop.trips = 8 := by decide +kernel

theorem cond1_iff (t : Fin k0_t1_loop.trips) : k0_cond1 t = 1#1 ↔ t.val + 1 < 8 := by revert t; decide +kernel
theorem cond2_iff (t : Fin k0_t1_loop.trips) : k0_cond2 t = 1#1 ↔ t.val + 1 ≤ 7 := by revert t; decide +kernel
theorem cond3_iff (t : Fin k0_t1_loop.trips) : k0_cond3 t = 1#1 ↔ t.val + 1 < 7 := by revert t; decide +kernel
theorem cond4_iff (t : Fin k0_t1_loop.trips) : k0_cond4 t = 1#1 ↔ t.val + 1 ≤ 7 := by revert t; decide +kernel
theorem cond5_iff (t : Fin k0_t1_loop.trips) : k0_cond5 t = 1#1 ↔ t.val + 1 < 8 := by revert t; decide +kernel
theorem cond6_iff (t : Fin k0_t1_loop.trips) : k0_cond6 t = 1#1 ↔ t.val + 1 < 7 := by revert t; decide +kernel
theorem cond7_iff (t : Fin k0_t1_loop.trips) : k0_cond7 t = 1#1 ↔ t.val + 1 < 7 := by revert t; decide +kernel
theorem cond8_iff (t : Fin k0_t1_loop.trips) : k0_cond8 t = 1#1 ↔ t.val + 1 < 6 := by revert t; decide +kernel

end Cert.KernelIdeal.RingProof

end
-- ==== Proof.Sched.lean ====
/-
# The schedule of the rings' semaphores

Which units each semaphore receives, round by round, and what each unit hands to the semaphore's owner.

Transfer `h` of a direction carries a block to slot `(h + 1) % 2` of the neighbour. It is allowed once that slot has been
given up by its reader, which the reader says with credit `h` (with its barrier signal for `h = 0`). The right to write a
slot goes through an invariant of the slot: the reader puts the slot in, the writer takes it out.
-/
module

public import proofs.«01_k».proof.Proof.Ring
public import Mathlib.Algebra.BigOperators.Intervals

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- A slot of a device's two-slot buffer, by device, direction and slot. -/
abbrev Key : Type := Dev nD × Bool × Fin 2

abbrev UB : Type := URounds (GSem nD τ sig) ℕ
abbrev UU : Type := UR sig nD τ × (UB × USlots Key)

local notation "𝕄" => MT nD τ sig ℕ (Elt F) ℕ UU ℕ

abbrev EP : Emb (UR sig nD τ) (MT nD τ sig ℕ (Elt F) ℕ UU ℕ) := embL
abbrev EX : Emb (UB × USlots Key) (MT nD τ sig ℕ (Elt F) ℕ UU ℕ) := embR
def ER : Emb UB (MT nD τ sig ℕ (Elt F) ℕ UU ℕ) := (Emb.inl : Emb UB (UB × USlots Key)).trans EX
def ES : Emb (USlots Key) (MT nD τ sig ℕ (Elt F) ℕ UU ℕ) := (Emb.inr : Emb (USlots Key) (UB × USlots Key)).trans EX

instance : (ER (F := F)).LandsIn (upEmb : UEmb _ 𝕄) := by unfold ER; infer_instance
instance : (ES (F := F)).LandsIn (upEmb : UEmb _ 𝕄) := by unfold ES; infer_instance

/-! ## Payloads -/

/-- One block of keys and values, as a slot holds it. -/
abbrev Blk (F : FTy → Type) [FloatOps F] : Type := S2x2048x256.Idx → Elt F .bf16

/-- A slot held by itself, whatever it contains. -/
def free (c : Dev nD) (d : Bool) (s : Fin 2) : sProp 𝕄 := iprop(∃ X : Blk F, owns (c : Thread nD τ) (slotM (bufM d) s) fullShare X)

instance free_storable (c : Dev nD) (d : Bool) (s : Fin 2) : BI.Storable (upEmb : UEmb _ 𝕄) (free (F := F) c d s) := by
  unfold free; infer_instance

theorem slot_nonempty (d : Bool) (s : Fin 2) : (slotM (bufM d) s).view.set.Nonempty := by
  unfold View.set
  rw [Finset.map_nonempty]
  exact ⟨fun i => ⟨0, by revert i; decide⟩, Finset.mem_univ _⟩

/-- A slot cannot be held twice. -/
theorem free_free_false (c : Dev nD) (d : Bool) (s : Fin 2) : iprop(free (F := F) c d s ∗ free c d s) ⊢ (False : sProp 𝕄) := by
  unfold free owns
  obtain ⟨i, hi⟩ := slot_nonempty d s
  iintro ⟨⟨%X, %f, -, H⟩, ⟨%Y, %g, -, H'⟩⟩
  iapply (pointsTo_full_full_false (ℓ := (slotM (bufM d) s).view.loc (c : Thread nD τ)) (f := f) (g := g) hi hi)
  isplitl [H] <;> iassumption

/-- What device `c` has to know before transfer `j` in direction `d`: the neighbour's slot has been given up often enough,
    and the neighbour's receive semaphore has come to the transfer's round. -/
def fact (d : Bool) (c : Dev nD) (j : ℕ) : sProp 𝕄 :=
  iprop(released ES (nxt d c, d, sr (j + 1)) (j / 2 + 1) ∗ reached ER (cell (nxt d c) (.recv d (sr (j + 1)))) (j / 2))

instance fact_persistent (d : Bool) (c : Dev nD) (j : ℕ) : BI.Persistent (fact (F := F) d c j) := by unfold fact; infer_instance
instance fact_storable (d : Bool) (c : Dev nD) (j : ℕ) : BI.Storable (upEmb : UEmb _ 𝕄) (fact (F := F) d c j) := by
  unfold fact; infer_instance

/-- The facts of the transfers `1 … j`. -/
def facts (d : Bool) (c : Dev nD) (j : ℕ) : sProp 𝕄 := bigSep (Finset.Icc 1 j) (fact (F := F) d c)

instance facts_persistent (d : Bool) (c : Dev nD) (j : ℕ) : BI.Persistent (facts (F := F) d c j) := by unfold facts; infer_instance
instance facts_storable (d : Bool) (c : Dev nD) (j : ℕ) : BI.Storable (upEmb : UEmb _ 𝕄) (facts (F := F) d c j) := by
  unfold facts; infer_instance

variable (X0 : Dev nD → Blk F)

/-- The block device `c` holds after `n` hops in direction `d`: the own block of the device `n` steps back. -/
def blk (d : Bool) (c : Dev nD) (n : ℕ) : Blk F := X0 ((prv d)^[n] c)

theorem blk_next (d : Bool) (c : Dev nD) (n : ℕ) : blk X0 d (nxt d c) (n + 1) = blk X0 d c n := by
  unfold blk; rw [Function.iterate_succ_apply, prv_nxt]

/-! ## The schedule -/

def kduties : Kind → ℕ → Finset ℕ
  | .bar, r => if r = 0 then {0, 1} else ∅
  | .send d s, r => if 2 * r + s.val < hops d then {0} else ∅
  | .recv d s, r => if 2 * r + 1 - s.val < hops d then {0} else ∅
  | .credit d, r => if r = 0 then Finset.Icc 1 (hops d - 1) else ∅

def kamount : Kind → ℕ
  | .bar => 1
  | .send d _ => N d
  | .recv d _ => N d
  | .credit _ => 1

theorem kamount_pos (k : Kind) : 0 < kamount k := by
  cases k <;> first | exact Nat.one_pos | exact N_pos _

def kpay (c : Dev nD) : Kind → ℕ → ℕ → sProp 𝕄
  | .bar, _, i => fact (i == 0) c 0
  | .send d s, r, _ => owns (c : Thread nD τ) (slotM (bufM d) s) fullShare.right (blk X0 d c (2 * r + s.val))
  | .recv d s, r, _ => owns (c : Thread nD τ) (slotM (bufM d) s) fullShare (blk X0 d c (2 * r + 2 - s.val))
  | .credit d, _, i => facts d c i

instance kpay_storable (c : Dev nD) (k : Kind) (r i : ℕ) : BI.Storable (upEmb : UEmb _ 𝕄) (kpay X0 c k r i) := by
  cases k <;> (unfold kpay; infer_instance)

def Rd : Rounds.Schedule (GSem nD τ sig) ℕ 𝕄 where
  duties g r := if g.1.2 = .tc then (match kindOf g.2 with | some k => kduties k r | none => ∅) else ∅
  amount g _ _ := match kindOf g.2 with | some k => kamount k | none => 1
  payload g r i := match kindOf g.2 with | some k => kpay X0 g.1.1 k r i | none => iprop(emp)
  amount_pos g r i h := by
    split
    · exact kamount_pos _
    · exact Nat.one_pos

instance Rd_storable (g : GSem nD τ sig) (r i : ℕ) : BI.Storable (upEmb : UEmb _ 𝕄) ((Rd X0).payload g r i) := by
  show BI.Storable upEmb (match kindOf g.2 with | some k => kpay X0 g.1.1 k r i | none => iprop(emp))
  split <;> infer_instance

section Cells
variable (c : Dev nD) (k : Kind) (r i : ℕ)

theorem duties_cell : (Rd X0).duties (cell c k) r = kduties k r := by
  dsimp only [Rd]; rw [if_pos rfl, kindOf_semOf]
theorem amount_cell : (Rd X0).amount (cell c k) r i = kamount k := by
  dsimp only [Rd]; rw [kindOf_semOf]
theorem payload_cell : (Rd X0).payload (cell c k) r i = kpay X0 c k r i := by
  dsimp only [Rd]; rw [kindOf_semOf]
theorem expect_cell : (Rd X0).expect (cell c k) r = (kduties k r).card * kamount k := by
  unfold Schedule.expect Schedule.amountOf
  rw [duties_cell, Finset.sum_congr rfl fun i _ => amount_cell X0 c k r i, Finset.sum_const, smul_eq_mul]

/-- The payloads of a round whose only duty is 0. -/
theorem rest_one (h : kduties k r = {0}) :
    bigSep ((Rd X0).duties (cell c k) r \ ∅) (fun i => (Rd X0).payload (cell c k) r i) = kpay X0 c k r 0 := by
  rw [Finset.sdiff_empty, duties_cell, h, bigSep_singleton, payload_cell]

end Cells

/-! ### The duties by transfer number -/

theorem duties_send {d : Bool} {h : ℕ} (hh : h < hops d) : kduties (.send d (sr h)) (h / 2) = {0} := by
  exact if_pos (by simp only [sr]; omega)
theorem duties_recv {d : Bool} {h : ℕ} (hh : h < hops d) : kduties (.recv d (sr (h + 1))) (h / 2) = {0} := by
  exact if_pos (by simp only [sr]; omega)
theorem pay_send (c : Dev nD) (d : Bool) (h i : ℕ) :
    kpay X0 c (.send d (sr h)) (h / 2) i = owns (c : Thread nD τ) (slotM (bufM d) (sr h)) fullShare.right (blk X0 d c h) := by
  show owns _ _ _ (blk X0 d c (2 * (h / 2) + (sr h).val)) = _
  rw [show 2 * (h / 2) + (sr h).val = h by simp only [sr]; omega]
theorem pay_recv (c : Dev nD) (d : Bool) (h i : ℕ) :
    kpay X0 c (.recv d (sr (h + 1))) (h / 2) i = owns (c : Thread nD τ) (slotM (bufM d) (sr (h + 1))) fullShare (blk X0 d c (h + 1)) := by
  show owns _ _ _ (blk X0 d c (2 * (h / 2) + 2 - (sr (h + 1)).val)) = _
  rw [show 2 * (h / 2) + 2 - (sr (h + 1)).val = h + 1 by simp only [sr]; omega]
theorem expect_send (c : Dev nD) {d : Bool} {h : ℕ} (hh : h < hops d) : (Rd X0).expect (cell c (.send d (sr h))) (h / 2) = N d := by
  rw [expect_cell, duties_send hh, Finset.card_singleton, Nat.one_mul]; rfl
theorem expect_recv (c : Dev nD) {d : Bool} {h : ℕ} (hh : h < hops d) : (Rd X0).expect (cell c (.recv d (sr (h + 1)))) (h / 2) = N d := by
  rw [expect_cell, duties_recv hh, Finset.card_singleton, Nat.one_mul]; rfl

/-! ## Levels: a unit awaited in round `r` may be owed while waiting for units of earlier rounds only -/

def L (g : GSem nD τ sig) : Finset ℕ := if g.1.2 = .tc then Finset.range 9 else ∅
def klv : Kind → ℕ → ℕ
  | .bar, _ => 1
  | .send _ _, _ => 0
  | .recv _ _, u => u + 1
  | .credit _, u => u + 1
def lv (g : GSem nD τ sig) (u : ℕ) : ℕ := match kindOf g.2 with | some k => klv k u | none => 0

theorem L_of_ne (g : GSem nD τ sig) (h : g.1.2 ≠ .tc) : L g = ∅ := if_neg h
theorem L_cell (c : Dev nD) (sm : SemLoc sig) : L ((c : Thread nD τ), sm) = Finset.range 9 := if_pos rfl
theorem lv_cell (c : Dev nD) (k : Kind) (u : ℕ) : lv (cell c k) u = klv k u := by unfold lv; rw [kindOf_semOf]

/-- Everything owed lies above level `b`. -/
def Above (O : CellTallies nD τ sig ℕ) (b : ℕ) : Prop := ∀ g u, 0 < O g u → u ∈ L g ∧ b < lv g u

theorem above_zero (b : ℕ) : Above 0 b := fun g u h => absurd h (Nat.lt_irrefl 0)
theorem above_add {O O' : CellTallies nD τ sig ℕ} {b : ℕ} (h : Above O b) (h' : Above O' b) : Above (O + O') b := fun g u hu => by
  rw [Pi.add_apply, Finsupp.add_apply] at hu
  rcases Nat.eq_zero_or_pos (O g u) with h0 | h0
  · exact h' g u (by omega)
  · exact h g u h0
theorem above_tally {c : Dev nD} {k : Kind} {u n b : ℕ} (hu : u < 9) (hb : b < klv k u) : Above (tallyAt (cell c k) u n) b := fun g v hv => by
  rw [tallyAt_apply] at hv
  by_cases h : g = cell c k ∧ v = u
  · obtain ⟨rfl, rfl⟩ := h
    exact ⟨by rw [L_cell]; exact Finset.mem_range.mpr hu, by rw [lv_cell]; exact hb⟩
  · rw [if_neg h] at hv; exact absurd hv (Nat.lt_irrefl 0)
theorem above_sum {S : Finset ℕ} {f : ℕ → CellTallies nD τ sig ℕ} {b : ℕ} (h : ∀ i ∈ S, Above (f i) b) : Above (∑ i ∈ S, f i) b := by
  induction S using Finset.induction_on with
  | empty => exact above_zero b
  | insert a S ha ih =>
    rw [Finset.sum_insert ha]
    exact above_add (h a (Finset.mem_insert_self _ _)) (ih fun i hi => h i (Finset.mem_insert_of_mem hi))

/-- A wait is allowed when everything owed lies above it. -/
theorem may_sem (c : Dev nD) {sm : SemLoc sig} {u b : ℕ} {O : CellTallies nD τ sig ℕ} (hu : u < 9)
    (hb : lv ((c : Thread nD τ), sm) u ≤ b) (hO : Above O b) :
    (levAts L lv : sProp 𝕄) ⊢ MayWait (c : Thread nD τ) sm u O :=
  MayOwe.of_cut (L := L) (lev := lv) b
    (fun p hp => by rw [Finset.mem_singleton.mp hp, L_cell]; exact Finset.mem_range.mpr hu)
    (fun g v h => (hO g v h).1)
    (fun p hp => by rw [Finset.mem_singleton.mp hp]; exact hb)
    (fun g v h => (hO g v h).2)

theorem may (c : Dev nD) {k : Kind} {u b : ℕ} {O : CellTallies nD τ sig ℕ} (hu : u < 9) (hb : klv k u ≤ b) (hO : Above O b) :
    (levAts L lv : sProp 𝕄) ⊢ MayWait (c : Thread nD τ) (semOf k) u O :=
  may_sem c hu (by rw [lv_cell]; exact hb) hO

/-! ## What is owed -/

def oweS (d : Bool) (c : Dev nD) (a : ℕ) : CellTallies nD τ sig ℕ :=
  ∑ h ∈ Finset.Ico a (hops d), tallyAt (cell (nxt d c) (.recv d (sr (h + 1)))) (h + 1) (N d)
def oweC (d : Bool) (c : Dev nD) (b : ℕ) : CellTallies nD τ sig ℕ :=
  ∑ j ∈ Finset.Ico b (hops d), tallyAt (cell (prv d c) (.credit d)) j 1
def oweB (d : Bool) (c : Dev nD) : CellTallies nD τ sig ℕ := tallyAt (cell (prv d c) .bar) 0 1

theorem oweS_step {d : Bool} (c : Dev nD) {a : ℕ} (h : a < hops d) :
    oweS d c a = tallyAt (cell (nxt d c) (.recv d (sr (a + 1)))) (a + 1) (N d) + oweS d c (a + 1) := Finset.sum_eq_sum_Ico_succ_bot h _
theorem oweC_step {d : Bool} (c : Dev nD) {b : ℕ} (h : b < hops d) :
    oweC d c b = tallyAt (cell (prv d c) (.credit d)) b 1 + oweC d c (b + 1) := Finset.sum_eq_sum_Ico_succ_bot h _
theorem oweS_done {d : Bool} (c : Dev nD) {a : ℕ} (h : hops d ≤ a) : oweS d c a = 0 := by unfold oweS; rw [Finset.Ico_eq_empty_of_le h, Finset.sum_empty]
theorem oweC_done {d : Bool} (c : Dev nD) {b : ℕ} (h : hops d ≤ b) : oweC d c b = 0 := by unfold oweC; rw [Finset.Ico_eq_empty_of_le h, Finset.sum_empty]

theorem above_oweS (d : Bool) (c : Dev nD) {a b : ℕ} (h : b < a + 2) : Above (oweS d c a) b :=
  above_sum fun i hi => by
    have := Finset.mem_Ico.mp hi; have := hops_le d
    exact above_tally (by omega) (show b < i + 1 + 1 by omega)
theorem above_oweC (d : Bool) (c : Dev nD) {a b : ℕ} (h : b < a + 1) : Above (oweC d c a) b :=
  above_sum fun i hi => by
    have := Finset.mem_Ico.mp hi; have := hops_le d
    exact above_tally (by omega) (show b < i + 1 by omega)
theorem above_oweB (d : Bool) (c : Dev nD) : Above (oweB d c) 0 := above_tally (by decide) (by decide)

/-- What device `c` owes after its barrier signals, with `a₁`, `a₂` transfers made and the credits below `b₁`, `b₂` given. -/
def owe (c : Dev nD) (a₁ a₂ b₁ b₂ : ℕ) : CellTallies nD τ sig ℕ := oweS true c a₁ + oweS false c a₂ + oweC true c b₁ + oweC false c b₂

theorem above_owe (c : Dev nD) {a₁ a₂ b₁ b₂ b : ℕ} (h₁ : b < a₁ + 2) (h₂ : b < a₂ + 2) (h₃ : b < b₁ + 1) (h₄ : b < b₂ + 1) :
    Above (owe c a₁ a₂ b₁ b₂) b :=
  above_add (above_add (above_add (above_oweS _ c h₁) (above_oweS _ c h₂)) (above_oweC _ c h₃)) (above_oweC _ c h₄)

theorem owe_send_t (c : Dev nD) {a₁ a₂ b₁ b₂ : ℕ} (h : a₁ < hops true) :
    owe c a₁ a₂ b₁ b₂ = owe c (a₁ + 1) a₂ b₁ b₂ + tallyAt (cell (nxt true c) (.recv true (sr (a₁ + 1)))) (a₁ + 1) (N true) := by
  unfold owe; rw [oweS_step c h]; ac_rfl
theorem owe_send_f (c : Dev nD) {a₁ a₂ b₁ b₂ : ℕ} (h : a₂ < hops false) :
    owe c a₁ a₂ b₁ b₂ = owe c a₁ (a₂ + 1) b₁ b₂ + tallyAt (cell (nxt false c) (.recv false (sr (a₂ + 1)))) (a₂ + 1) (N false) := by
  unfold owe; rw [oweS_step c h]; ac_rfl
theorem owe_credit_t (c : Dev nD) {a₁ a₂ b₁ b₂ : ℕ} (h : b₁ < hops true) :
    owe c a₁ a₂ b₁ b₂ = owe c a₁ a₂ (b₁ + 1) b₂ + tallyAt (cell (prv true c) (.credit true)) b₁ 1 := by
  unfold owe; rw [oweC_step c h]; ac_rfl
theorem owe_credit_f (c : Dev nD) {a₁ a₂ b₁ b₂ : ℕ} (h : b₂ < hops false) :
    owe c a₁ a₂ b₁ b₂ = owe c a₁ a₂ b₁ (b₂ + 1) + tallyAt (cell (prv false c) (.credit false)) b₂ 1 := by
  unfold owe; rw [oweC_step c h]; ac_rfl

/-- What device `c` owes at launch. -/
def O₀ (c : Dev nD) : CellTallies nD τ sig ℕ := owe c 0 0 1 1 + oweB false c + oweB true c

theorem above_O₀ (c : Dev nD) : Above (O₀ c) 0 :=
  above_add (above_add (above_owe c (by decide) (by decide) (by decide) (by decide)) (above_oweB _ c)) (above_oweB _ c)

end Cert.KernelIdeal.RingProof

end
-- ==== Proof.Steps.lean ====
/-
# One step at a time: slots, transfers, waits and credits of one direction

Each lemma here is about one operation of the kernel, for either direction and any transfer number.
-/
module

public import proofs.«01_k».proof.Proof.Sched
public import Idealize.ShloMosaic.Lib.ValueLayout
public import Idealize.SL.BI.BigOpNat

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

abbrev 𝒱₀ : Variants := Variants.none

/-- A device's program run to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X0 : Dev nD → Blk F) (κ : Dev nD × Kind → ℕ) (ιs : Key → ℕ)

/-! ## What every device knows -/

/-- The invariants of all semaphores. -/
def envC : sProp 𝕄 := bigSep Finset.univ fun x : Dev nD × Kind => cellInv ER (Rd X0) (κ x) (cell x.1 x.2)
/-- The invariants of all slots. -/
def envS : sProp 𝕄 := bigSep Finset.univ fun y : Key => slotInv ES (ιs y) y (free (F := F) y.1 y.2.1 y.2.2)
/-- Every semaphore has come to its first round. -/
def envR : sProp 𝕄 := bigSep Finset.univ fun x : Dev nD × Kind => reached (ER (F := F)) (cell x.1 x.2) 0

instance envC_persistent : BI.Persistent (envC X0 κ) := by unfold envC; infer_instance
instance envS_persistent : BI.Persistent (envS (F := F) ιs) := by unfold envS; infer_instance
instance envR_persistent : BI.Persistent (envR (F := F)) := by unfold envR; infer_instance

/-- All of that, and the levels. -/
def env : sProp 𝕄 := iprop(envC X0 κ ∗ envS ιs ∗ envR ∗ levAts L lv)

instance env_persistent : BI.Persistent (env X0 κ ιs) := by unfold env; infer_instance

theorem envC_cell (c : Dev nD) (k : Kind) : envC X0 κ ⊢ cellInv ER (Rd X0) (κ (c, k)) (cell c k) :=
  bigSep_elim (Φ := fun x : Dev nD × Kind => cellInv ER (Rd X0) (κ x) (cell x.1 x.2)) (Finset.mem_univ (c, k))
theorem envS_slot (c : Dev nD) (d : Bool) (s : Fin 2) : envS (F := F) ιs ⊢ slotInv ES (ιs (c, d, s)) (c, d, s) (free c d s) :=
  bigSep_elim (Φ := fun y : Key => slotInv ES (ιs y) y (free (F := F) y.1 y.2.1 y.2.2)) (Finset.mem_univ (c, d, s))
theorem envR_reached (c : Dev nD) (k : Kind) : envR (F := F) ⊢ reached ER (cell c k) 0 :=
  bigSep_elim (Φ := fun x : Dev nD × Kind => reached (ER (F := F)) (cell x.1 x.2) 0) (Finset.mem_univ (c, k))

theorem env_cell (c : Dev nD) (k : Kind) : env X0 κ ιs ⊢ cellInv ER (Rd X0) (κ (c, k)) (cell c k) := by
  unfold env; iintro ⟨H, -, -, -⟩; iapply (envC_cell X0 κ c k); iexact H
theorem env_slot (c : Dev nD) (d : Bool) (s : Fin 2) : env X0 κ ιs ⊢ slotInv ES (ιs (c, d, s)) (c, d, s) (free (F := F) c d s) := by
  unfold env; iintro ⟨-, H, -, -⟩; iapply (envS_slot ιs c d s); iexact H
theorem env_reached (c : Dev nD) (k : Kind) : env X0 κ ιs ⊢ reached ER (cell c k) 0 := by
  unfold env; iintro ⟨-, -, H, -⟩; iapply (envR_reached c k); iexact H
theorem env_may (c : Dev nD) (k : Kind) (u b : ℕ) (O : CellTallies nD τ sig ℕ) (hu : u < 9) (hb : klv k u ≤ b) (hO : Above O b) :
    env X0 κ ιs ⊢ (MayWait (c : Thread nD τ) (semOf k) u O : sProp 𝕄) := by
  unfold env; iintro ⟨-, -, -, H⟩; iapply (may c hu hb hO); iexact H

/-! ## Names for the program's slots and semaphores -/

theorem slot_eq (M : Memref sig .tc .vmem S2x2x2048x256 .bf16) (s : Fin 2) {off : Fin 4 → ℕ} (h : off = ![s.val, 0, 0, 0]) (inb) :
    (M.slice (Rect.unit (s := S2x2x2048x256) off S1x2x2048x256.size inb) (fun _ => rfl)).squeeze S2x2048x256
      squeezes_S1x2x2048x256_S2x2048x256 = slotM M s := by subst h; rfl

theorem pick_eq (A : DmaSems sig S2) (s : Fin 2) {off : Fin 1 → ℕ} (h : off = ![s.val]) (inb) :
    ((A.slice (Rect.unit (s := S2) off S1.size inb)).squeeze S_ squeezes_S1_S_).sem = pick A s := by subst h; rfl

/-! ## The state of one direction -/

/-- What a device owes, whatever it has waited for. -/
def ow (c : Dev nD) (O : CellTallies nD τ sig ℕ) : sProp 𝕄 := iprop(∃ W, owes (c : Thread nD τ) O W)

/-- A semaphore's owner at the beginning of round `n`. -/
def pos (g : GSem nD τ sig) (n : ℕ) : sProp 𝕄 := iprop(atPos ER g n ∅ 0 ∗ reached ER g n)

/-- The receive semaphores after `n` arrivals. -/
def recvPos (d : Bool) (c : Dev nD) (n : ℕ) : sProp 𝕄 :=
  iprop(pos (F := F) (cell c (.recv d (sr (n + 1)))) (n / 2) ∗ pos (cell c (.recv d (sr n))) ((n + 1) / 2))
/-- The send semaphores after `n` completed transfers. -/
def sendPos (d : Bool) (c : Dev nD) (n : ℕ) : sProp 𝕄 :=
  iprop(pos (F := F) (cell c (.send d (sr n))) (n / 2) ∗ pos (cell c (.send d (sr (n + 1)))) ((n + 1) / 2))
/-- The slots' readers after `n` releases. -/
def readPos (d : Bool) (c : Dev nD) (n : ℕ) : sProp 𝕄 :=
  iprop(readerAt (ES (F := F)) (c, d, sr (n + 1)) (n / 2) ∗ readerAt ES (c, d, sr n) ((n + 1) / 2))

theorem recvPos_eq (d : Bool) (c : Dev nD) (n : ℕ) : recvPos (F := F) d c n
    = iprop(pos (cell c (.recv d (sr (n + 1)))) (n / 2) ∗ pos (cell c (.recv d (sr n))) ((n + 1) / 2)) := rfl
theorem sendPos_eq (d : Bool) (c : Dev nD) (n : ℕ) : sendPos (F := F) d c n
    = iprop(pos (cell c (.send d (sr n))) (n / 2) ∗ pos (cell c (.send d (sr (n + 1)))) ((n + 1) / 2)) := rfl
theorem readPos_eq (d : Bool) (c : Dev nD) (n : ℕ) : readPos (F := F) d c n
    = iprop(readerAt ES (c, d, sr (n + 1)) (n / 2) ∗ readerAt ES (c, d, sr n) ((n + 1) / 2)) := rfl

theorem half_two (n : ℕ) : (n + 1 + 1) / 2 = n / 2 + 1 := by omega

theorem recvPos_next (d : Bool) (c : Dev nD) (n : ℕ) :
    iprop(pos (F := F) (cell c (.recv d (sr (n + 1)))) (n / 2 + 1) ∗ pos (cell c (.recv d (sr n))) ((n + 1) / 2)) ⊢ recvPos d c (n + 1) := by
  unfold recvPos; rw [show sr (n + 1 + 1) = sr n from sr_add_two n, half_two]
  iintro ⟨H, H'⟩; isplitl [H'] <;> iassumption
theorem sendPos_next (d : Bool) (c : Dev nD) (n : ℕ) :
    iprop(pos (F := F) (cell c (.send d (sr n))) (n / 2 + 1) ∗ pos (cell c (.send d (sr (n + 1)))) ((n + 1) / 2)) ⊢ sendPos d c (n + 1) := by
  unfold sendPos; rw [show sr (n + 1 + 1) = sr n from sr_add_two n, half_two]
  iintro ⟨H, H'⟩; isplitl [H'] <;> iassumption
theorem readPos_next (d : Bool) (c : Dev nD) (n : ℕ) :
    iprop(readerAt (ES (F := F)) (c, d, sr (n + 1)) (n / 2 + 1) ∗ readerAt ES (c, d, sr n) ((n + 1) / 2)) ⊢ readPos d c (n + 1) := by
  unfold readPos; rw [show sr (n + 1 + 1) = sr n from sr_add_two n, half_two]
  iintro ⟨H, H'⟩; isplitl [H'] <;> iassumption

/-- What transfer `h` spends: the duties of both its semaphores, and the writer's ticket of the slot. -/
def sendTok (d : Bool) (c : Dev nD) (h : ℕ) : sProp 𝕄 :=
  iprop(dutyTok (ER (F := F)) (cell c (.send d (sr h))) (h / 2) 0
    ∗ dutyTok ER (cell (nxt d c) (.recv d (sr (h + 1)))) (h / 2) 0
    ∗ writeTok ES (nxt d c, d, sr (h + 1)) (h / 2 + 1))

/-- The right to wait for arrival `h`. -/
def recvCred (d : Bool) (c : Dev nD) (h : ℕ) : sProp 𝕄 := cred (tallyAt (cell c (.recv d (sr (h + 1)))) (h + 1) (N d))
/-- The right to wait for the completion of transfer `h`. -/
def sendCred (d : Bool) (c : Dev nD) (h : ℕ) : sProp 𝕄 := cred (tallyAt (cell c (.send d (sr h))) 0 (N d))

/-- Arrivals: `n` have been waited for, or all there are. -/
def stR (d : Bool) (c : Dev nD) (n : ℕ) : sProp 𝕄 :=
  iprop(recvPos (F := F) d c (min n (hops d)) ∗ bigSep (Finset.Ico n (hops d)) (recvCred d c))
/-- Transfers: `n` have been issued, or all there are. -/
def stS (d : Bool) (c : Dev nD) (n : ℕ) : sProp 𝕄 := bigSep (Finset.Ico n (hops d)) (sendTok (F := F) d c)
/-- Transfers: `n` have completed, or all there are. -/
def stW (d : Bool) (c : Dev nD) (n : ℕ) : sProp 𝕄 := sendPos d c (min n (hops d))
/-- Credits: those below `n` have been given. -/
def stG (d : Bool) (c : Dev nD) (n : ℕ) : sProp 𝕄 :=
  iprop(readPos (F := F) d c (min n (hops d)) ∗ facts d (prv d c) (min n (hops d) - 1)
    ∗ bigSep (Finset.Ico n (hops d)) fun j => dutyTok ER (cell (prv d c) (.credit d)) 0 j)
/-- The credit semaphore after `n` credits have been waited for. -/
def credPos (d : Bool) (c : Dev nD) (n : ℕ) : sProp 𝕄 :=
  if n + 1 = hops d then atPos (ER (F := F)) (cell c (.credit d)) 1 ∅ 0
  else iprop(∃ T : Finset ℕ, ⌜n ≤ T.card ∧ T ⊆ Finset.Icc 1 (hops d - 1)⌝ ∗ atPos ER (cell c (.credit d)) 0 T n ∗ bigSep T (facts d c))
/-- Credits: `n` have been waited for, or all there are. -/
def stK (d : Bool) (c : Dev nD) (n : ℕ) : sProp 𝕄 :=
  iprop(credPos (F := F) d c (min n (hops d - 1)) ∗ bigSep (Finset.Ico (n + 1) (hops d)) fun j => cred (tallyAt (cell c (.credit d)) j 1))

/-! Past the end nothing moves. -/

section Idle
variable {d : Bool} {c : Dev nD} {n : ℕ}

theorem stR_idle (h : hops d ≤ n) : stR (F := F) d c n = stR d c (n + 1) := by
  unfold stR; rw [min_eq_right h, min_eq_right (Nat.le_succ_of_le h), Finset.Ico_eq_empty_of_le h, Finset.Ico_eq_empty_of_le (Nat.le_succ_of_le h)]
theorem stS_idle (h : hops d ≤ n) : stS (F := F) d c n = stS d c (n + 1) := by
  unfold stS; rw [Finset.Ico_eq_empty_of_le h, Finset.Ico_eq_empty_of_le (Nat.le_succ_of_le h)]
theorem stW_idle (h : hops d ≤ n) : stW (F := F) d c n = stW d c (n + 1) := by
  unfold stW; rw [min_eq_right h, min_eq_right (Nat.le_succ_of_le h)]
theorem stG_idle (h : hops d ≤ n) : stG (F := F) d c n = stG d c (n + 1) := by
  unfold stG; rw [min_eq_right h, min_eq_right (Nat.le_succ_of_le h), Finset.Ico_eq_empty_of_le h, Finset.Ico_eq_empty_of_le (Nat.le_succ_of_le h)]
theorem stK_idle (h : hops d ≤ n + 1) : stK (F := F) d c n = stK d c (n + 1) := by
  unfold stK; rw [min_eq_right (by omega), min_eq_right (by omega), Finset.Ico_eq_empty_of_le h, Finset.Ico_eq_empty_of_le (Nat.le_succ_of_le h)]

end Idle

/-! ## A transfer -/

theorem mem_send (c : Dev nD) {d : Bool} {h : ℕ} (hh : h < hops d) : 0 ∈ (Rd X0).duties (cell c (.send d (sr h))) (h / 2) := by
  rw [duties_cell, duties_send hh]; exact Finset.mem_singleton_self _
theorem mem_recv (c : Dev nD) {d : Bool} {h : ℕ} (hh : h < hops d) : 0 ∈ (Rd X0).duties (cell c (.recv d (sr (h + 1)))) (h / 2) := by
  rw [duties_cell, duties_recv hh]; exact Finset.mem_singleton_self _

/-- The source's half is what the send semaphore gives back. -/
theorem send_pays (c : Dev nD) (d : Bool) (h : ℕ) {fs} (hfs : (slotM (bufM d) (sr h)).view.read (Elt F) fs = blk X0 d c h) :
    ((slotM (bufM d) (sr h)).view.loc (c : Thread nD τ) ↦[(slotM (bufM d) (sr h)).view.set]{fullShare.right} fs : sProp 𝕄)
      ⊢ (Rd X0).payload (cell c (.send d (sr h))) (h / 2) 0 := by
  rw [payload_cell, pay_send]; unfold owns
  iintro H; iexists fs; isplitr; · (ipureintro; exact hfs)
  iexact H

/-- The written slot is what the neighbour's receive semaphore gives. -/
theorem recv_pays (c : Dev nD) (d : Bool) (h : ℕ) {fd Z} (hZ : Z = blk X0 d c h) :
    ((slotM (bufM d) (sr (h + 1))).view.loc (nxt d c : Thread nD τ) ↦[(slotM (bufM d) (sr (h + 1))).view.set]{fullShare}
        (slotM (bufM d) (sr (h + 1))).view.write (Elt F) fd Z Finset.univ : sProp 𝕄)
      ⊢ (Rd X0).payload (cell (nxt d c) (.recv d (sr (h + 1)))) (h / 2) 0 := by
  rw [payload_cell, pay_recv, blk_next]; unfold owns
  iintro H; iexists (slotM (bufM d) (sr (h + 1))).view.write (Elt F) fd Z Finset.univ; isplitr; · (ipureintro; exact (View.read_write_univ fd Z).trans hZ)
  iexact H

theorem step_send {d : Bool} {c n : Dev nD} {h : ℕ} (hh : h < hops d) (hn : n = nxt d c)
    {src dst : Memref sig .tc .vmem S2x2048x256 .bf16} (hs : src = slotM (bufM d) (sr h)) (hd : dst = slotM (bufM d) (sr (h + 1)))
    {sS sR : DmaSem sig} (hsS : sS = pick (sA d) (sr h)) (hsR : sR = pick (rA d) (sr (h + 1)))
    {hsc : dst.view.ref.isScScratch = false} {hsrc : src.view.WordExact} {hdst : dst.view.WordExact}
    {hsem : DmaTarget.Typed .vmem (.dma sR) (.remote (Dev.tc n : Thread nD τ) dst (.dma sS) hsc)}
    {O : CellTallies nD τ sig ℕ} {α : Type} {Q : α → sProp 𝕄} {k : PUnit → Prog (TpuEff nD τ sig (Elt F) Λ₀ .tc) α} :
    iprop(env X0 κ ιs ∗ owns (c : Thread nD τ) (slotM (bufM d) (sr h)) fullShare.right (blk X0 d c h) ∗ fact d c h ∗ sendTok d c h
        ∗ reached ER (cell c (.send d (sr h))) (h / 2)
        ∗ ow c (O + tallyAt (cell (nxt d c) (.recv d (sr (h + 1)))) (h + 1) (N d)))
      ⊢ iprop(((sendCred d c h ∗ ow c O) -∗ WP c (k ⟨⟩) Q)
          -∗ WP c (.op (.enqueueDma src (.remote (Dev.tc n : Thread nD τ) dst (.dma sS) hsc) (.dma sR) hsrc hdst hsem) k) Q) := by
  subst hn hs hd hsS hsR
  unfold fact sendTok ow
  iintro ⟨#He, Hsrc, ⟨#Hrel, #HrR⟩, ⟨HtS, HtR, Hw⟩, #HrS, ⟨%W, HO⟩⟩ Hk
  imod (slot_take ES (Set.mem_univ (ιs (nxt d c, d, sr (h + 1)))) (h / 2 + 1)) $$ [Hw] with Hfree
  · isplitr; · iapply (env_slot X0 κ ιs (nxt d c) d (sr (h + 1))); iexact He
    isplitr; · iexact Hrel
    iexact Hw
  unfold free
  icases Hfree with ⟨%Y, Hdst⟩
  unfold owns
  icases Hsrc with ⟨%fs, %hfs, Hsrc⟩
  icases Hdst with ⟨%fd, %hfd, Hdst⟩
  iapply (Rounds.wp_send_pointsTo 𝒱₀ ER (Rd X0) (c : Thread nD τ) none (κ₁ := κ (c, .send d (sr h))) (κ₂ := κ (nxt d c, .recv d (sr (h + 1))))
    (r₁ := h / 2) (r₂ := h / 2) (d₁ := 0) (d₂ := 0) (fd := fd) (q := fullShare.right) (fs := fs)
    (sem := .dma (pick (rA d) (sr (h + 1)))) (sS := .dma (pick (sA d) (sr h)))
    (mem_send X0 c hh) (mem_recv X0 (nxt d c) hh)
    (h + 1) 0 (N d) (N_slot d _) (amount_cell X0 c (.send d (sr h)) _ _) (amount_cell X0 (nxt d c) (.recv d (sr (h + 1))) _ _) O rfl (W := W)
    (send_pays X0 c d h hfs) (recv_pays X0 c d h hfs)) $$ [Hsrc Hdst HO HtS HtR]
  · isplitr; · iapply (env_cell X0 κ ιs c (.send d (sr h))); iexact He
    isplitr; · iapply (env_cell X0 κ ιs (nxt d c) (.recv d (sr (h + 1)))); iexact He
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨HcS, HO⟩
  iapply Hk
  unfold sendCred
  isplitl [HcS]; · iexact HcS
  iexists W; iexact HO

/-! ## Waiting for a transfer's completion -/

theorem step_waitSend {d : Bool} {c : Dev nD} {h : ℕ} (hh : h < hops d) {src dst : Memref sig .tc .vmem S2x2048x256 .bf16}
    {sS : DmaSem sig} {s : Fin 2} (hd : dst = slotM (bufM d) s) (hsS : sS = pick (sA d) (sr h))
    {hsrc : src.view.WordExact} {hdst : dst.view.WordExact} {O : CellTallies nD τ sig ℕ} (hO : Above O 0)
    {α : Type} {Q : α → sProp 𝕄} {k : PUnit → Prog (TpuEff nD τ sig (Elt F) Λ₀ .tc) α} :
    iprop(env X0 κ ιs ∗ sendCred d c h ∗ stW d c h ∗ ow c O)
      ⊢ iprop(((owns (c : Thread nD τ) (slotM (bufM d) (sr h)) fullShare.right (blk X0 d c h) ∗ stW d c (h + 1) ∗ ow c O) -∗ WP c (k ⟨⟩) Q)
          -∗ WP c (.op (.waitDma2 sS src dst hsrc hdst) k) Q) := by
  subst hd hsS
  unfold sendCred stW
  rw [min_eq_left hh.le, min_eq_left hh]
  rw [sendPos_eq d c h]
  unfold pos ow
  iintro ⟨#He, Hc, ⟨⟨Hat, -⟩, Hoth⟩, ⟨%W, HO⟩⟩ Hk
  iapply (Rounds.wp_wait_rest_token 𝒱₀ ER (Rd X0) (c : Thread nD τ) none (κ := κ (c, .send d (sr h))) (sm := semOf (.send d (sr h)))
    (wpE_waitDma2_eq 𝒱₀ (c : Thread nD τ) none Set.univ) (Set.mem_univ _) 0 (O := O) (W := W) (R := h / 2) (m := 0) (T := ∅)
    ((Nat.zero_add _).trans ((N_slot d s).trans (expect_send X0 c hh).symm))) $$ [Hc HO Hat]
  · isplitr; · iapply (env_cell X0 κ ιs c (.send d (sr h))); iexact He
    isplitl [Hc]; · rw [N_slot]; iexact Hc
    isplitl [HO]; · iexact HO
    isplitr; · iapply (env_may X0 κ ιs c (.send d (sr h)) 0 0 O (by decide) (le_refl 0) hO); iexact He
    iexact Hat
  iintro ⟨HO, Hat, Hr, Hp⟩
  ihave Hp' := (Entails.of_eq ((rest_one X0 c (.send d (sr h)) (h / 2) (duties_send hh)).trans (pay_send X0 c d h 0))) $$ Hp
  iapply Hk
  isplitl [Hp']; · iexact Hp'
  isplitl [Hat Hr Hoth]
  · iapply (sendPos_next d c h)
    isplitl [Hat Hr]
    · unfold pos; isplitl [Hat] <;> iassumption
    unfold pos; iexact Hoth
  iexists _; iexact HO

/-! ## Waiting for an arrival -/

theorem step_waitRecv {d : Bool} {c : Dev nD} {h : ℕ} (hh : h < hops d) {src dst : Memref sig .tc .vmem S2x2048x256 .bf16}
    {sR : DmaSem sig} {s : Fin 2} (hd : dst = slotM (bufM d) s) (hsR : sR = pick (rA d) (sr (h + 1)))
    {hsrc : src.view.WordExact} {hdst : dst.view.WordExact} {O : CellTallies nD τ sig ℕ} (hO : Above O (h + 2))
    {α : Type} {Q : α → sProp 𝕄} {k : PUnit → Prog (TpuEff nD τ sig (Elt F) Λ₀ .tc) α} :
    iprop(env X0 κ ιs ∗ stR d c h ∗ ow c O)
      ⊢ iprop(((owns (c : Thread nD τ) (slotM (bufM d) (sr (h + 1))) fullShare (blk X0 d c (h + 1)) ∗ stR d c (h + 1) ∗ ow c O) -∗ WP c (k ⟨⟩) Q)
          -∗ WP c (.op (.waitDma2 sR src dst hsrc hdst) k) Q) := by
  subst hd hsR
  unfold stR
  rw [min_eq_left hh.le, min_eq_left hh, Idealize.SL.BI.bigSep_Ico_succ_bot hh]
  rw [recvPos_eq d c h]
  unfold pos recvCred ow
  iintro ⟨#He, ⟨⟨⟨Hat, -⟩, Hoth⟩, ⟨Hc, Hrest⟩⟩, ⟨%W, HO⟩⟩ Hk
  iapply (Rounds.wp_wait_rest_token 𝒱₀ ER (Rd X0) (c : Thread nD τ) none (κ := κ (c, .recv d (sr (h + 1)))) (sm := semOf (.recv d (sr (h + 1))))
    (wpE_waitDma2_eq 𝒱₀ (c : Thread nD τ) none Set.univ) (Set.mem_univ _) (h + 1) (O := O) (W := W) (R := h / 2) (m := 0) (T := ∅)
    ((Nat.zero_add _).trans ((N_slot d s).trans (expect_recv X0 c hh).symm))) $$ [Hc HO Hat]
  · isplitr; · iapply (env_cell X0 κ ιs c (.recv d (sr (h + 1)))); iexact He
    isplitl [Hc]; · rw [N_slot]; iexact Hc
    isplitl [HO]; · iexact HO
    isplitr
    · iapply (env_may X0 κ ιs c (.recv d (sr (h + 1))) (h + 1) (h + 2) O (by have := hops_le d; omega) (le_refl _) hO); iexact He
    iexact Hat
  iintro ⟨HO, Hat, Hr, Hp⟩
  ihave Hp' := (Entails.of_eq ((rest_one X0 c (.recv d (sr (h + 1))) (h / 2) (duties_recv hh)).trans (pay_recv X0 c d h 0))) $$ Hp
  iapply Hk
  isplitl [Hp']; · iexact Hp'
  isplitl [Hat Hr Hoth Hrest]
  · isplitr [Hrest]
    · iapply (recvPos_next d c h)
      isplitl [Hat Hr]
      · unfold pos; isplitl [Hat] <;> iassumption
      unfold pos; iexact Hoth
    iexact Hrest
  iexists _; iexact HO

/-! ## Waiting for a credit -/

theorem facts_elim {d : Bool} {c : Dev nD} {j n : ℕ} (h : 1 ≤ n) (h' : n ≤ j) : facts (F := F) d c j ⊢ fact d c n := by
  unfold facts; exact bigSep_elim (Finset.mem_Icc.mpr ⟨h, h'⟩)

theorem duties_credit (c : Dev nD) (d : Bool) : (Rd X0).duties (cell c (.credit d)) 0 = Finset.Icc 1 (hops d - 1) := by
  rw [duties_cell]; rfl

theorem expect_credit (c : Dev nD) (d : Bool) : (Rd X0).expect (cell c (.credit d)) 0 = hops d - 1 := by
  rw [expect_cell]
  show (Finset.Icc 1 (hops d - 1)).card * 1 = _
  rw [Nat.card_Icc]; omega

/-- The payloads of some credits, by their own names. -/
theorem credit_pays (c : Dev nD) (d : Bool) (T : Finset ℕ) :
    bigSep T (fun i => (Rd X0).payload (cell c (.credit d)) 0 i) = bigSep T (facts d c) :=
  bigSep_congr fun i _ => payload_cell X0 c (.credit d) 0 i

/-- One of several credits. -/
theorem facts_of {c : Dev nD} {d : Bool} {T : Finset ℕ} {j n : ℕ} (hj : j ∈ T) (h : 1 ≤ n) (h' : n ≤ j) :
    bigSep T (facts (F := F) d c) ⊢ fact d c n := BI.Entails.trans (bigSep_elim (Φ := facts (F := F) d c) hj) (facts_elim h h')

/-- Of `n + 1` credits numbered from 1, one is numbered above `n`. -/
theorem exists_late {T : Finset ℕ} {n m : ℕ} (hc : n + 1 ≤ T.card) (hT : T ⊆ Finset.Icc 1 m) : ∃ j ∈ T, n + 1 ≤ j := by
  by_contra hn
  push Not at hn
  have : T ⊆ Finset.Icc 1 n := fun j hj => Finset.mem_Icc.mpr ⟨(Finset.mem_Icc.mp (hT hj)).1, by have := hn j hj; omega⟩
  have := Finset.card_le_card this
  rw [Nat.card_Icc] at this; omega

theorem step_waitCredit {d : Bool} {c : Dev nD} {n : ℕ} (hn : n + 1 < hops d) {sm : Sem sig} (hsm : sm = (kA d).sem)
    {k' : ℤ} (hk' : k' = ((1 : ℕ) : ℤ)) {O : CellTallies nD τ sig ℕ} (hO : Above O (n + 2))
    {α : Type} {Q : α → sProp 𝕄} {k : PUnit → Prog (TpuEff nD τ sig (Elt F) Λ₀ .tc) α} :
    iprop(env X0 κ ιs ∗ stK d c n ∗ ow c O)
      ⊢ iprop(((fact d c (n + 1) ∗ stK d c (n + 1) ∗ ow c O) -∗ WP c (k ⟨⟩) Q) -∗ WP c (.op (.semWait sm k') k) Q) := by
  subst hsm hk'
  unfold stK
  rw [min_eq_left (by omega), min_eq_left (by omega), Idealize.SL.BI.bigSep_Ico_succ_bot hn]
  unfold credPos ow
  rw [if_neg (by omega)]
  iintro ⟨#He, ⟨⟨%T, %hT, Hat, #HT⟩, ⟨Hc, Hrest⟩⟩, ⟨%W, HO⟩⟩ Hk
  have hu : n + 1 < 9 := by have := hops_le d; omega
  by_cases hl : n + 1 + 1 = hops d
  · rw [if_pos hl]
    iapply (Rounds.wp_wait_rest_token 𝒱₀ ER (Rd X0) (c : Thread nD τ) none (κ := κ (c, .credit d)) (sm := semOf (.credit d))
      (wpE_semWait_eq 𝒱₀ (c : Thread nD τ) none Set.univ) (Set.mem_univ _) (n + 1) (O := O) (W := W) (R := 0) (m := n) (T := T)
      ((show n + 1 = hops d - 1 by omega).trans (expect_credit X0 c d).symm)) $$ [Hc HO Hat]
    · isplitr; · iapply (env_cell X0 κ ιs c (.credit d)); iexact He
      isplitl [Hc]; · iexact Hc
      isplitl [HO]; · iexact HO
      isplitr; · iapply (env_may X0 κ ιs c (.credit d) (n + 1) (n + 2) O hu (le_refl _) hO); iexact He
      iexact Hat
    iintro ⟨HO, Hat, -, Hp⟩
    ihave #Hp' := (Entails.of_eq (credit_pays X0 c d _)) $$ Hp
    iapply Hk
    isplitr
    · by_cases hm : n + 1 ∈ T
      · iapply (facts_of hm (by omega : 1 ≤ n + 1) (le_refl _)); iexact HT
      · have hm' : n + 1 ∈ (Rd X0).duties (cell c (.credit d)) 0 \ T := by
          rw [duties_credit]; exact Finset.mem_sdiff.mpr ⟨Finset.mem_Icc.mpr ⟨by omega, by omega⟩, hm⟩
        iapply (facts_of hm' (by omega : 1 ≤ n + 1) (le_refl _)); iexact Hp'
    isplitl [Hat Hrest]
    · isplitl [Hat]; · iexact Hat
      iexact Hrest
    iexists _; iexact HO
  · rw [if_neg hl]
    iapply (Rounds.wp_wait 𝒱₀ ER (Rd X0) (c : Thread nD τ) none (κ := κ (c, .credit d)) (sm := semOf (.credit d))
      (wpE_semWait_eq 𝒱₀ (c : Thread nD τ) none Set.univ) (Set.mem_univ _) (cr := Finsupp.single (n + 1) 1) (O := O) (W := W)
      {(semOf (.credit d), n + 1)} (R := 0) (m := n) (T := T) (Util.total_single _ _) (image_single_subset _ _ _)) $$ [Hc HO Hat]
    · isplitr; · iapply (env_cell X0 κ ιs c (.credit d)); iexact He
      isplitl [Hc]; · iexact Hc
      isplitl [HO]; · iexact HO
      isplitr; · iapply (env_may X0 κ ιs c (.credit d) (n + 1) (n + 2) O hu (le_refl _) hO); iexact He
      iexact Hat
    iintro %S ⟨%hS, HO, Hat, Hp⟩
    have hS' : T ⊆ S ∧ S ⊆ Finset.Icc 1 (hops d - 1) ∧ n + 1 ≤ S.card := by
      obtain ⟨h1, h2, h3⟩ := hS
      have h2' : S ⊆ Finset.Icc 1 (hops d - 1) := (duties_credit X0 c d) ▸ h2
      have h3' : n + 1 + (Finset.Icc 1 (hops d - 1) \ S).card ≤ hops d - 1 := by
        have := (duties_credit X0 c d) ▸ (expect_credit X0 c d) ▸ h3
        exact this
      rw [Finset.card_sdiff_of_subset h2', Nat.card_Icc] at h3'
      have := Finset.card_le_card h2'; rw [Nat.card_Icc] at this
      exact ⟨h1, h2', by omega⟩
    obtain ⟨hTS, hSI, hSc⟩ := hS'
    ihave #Hp' := (Entails.of_eq (credit_pays X0 c d _)) $$ Hp
    ihave #HS := (show iprop(bigSep T (facts (F := F) d c) ∗ bigSep (S \ T) (facts d c)) ⊢ bigSep S (facts d c) from
      Entails.of_eq (bigSep_sdiff_split hTS).symm) $$ []
    · isplitr <;> iassumption
    obtain ⟨j, hj, hjn⟩ := exists_late hSc hSI
    iapply Hk
    isplitr
    · iapply (facts_of hj (by omega : 1 ≤ n + 1) hjn); iexact HS
    isplitl [Hat Hrest]
    · isplitl [Hat]
      · iexists S
        isplitr; · (ipureintro; exact ⟨hSc, hSI⟩)
        isplitl [Hat] <;> iassumption
      iexact Hrest
    iexists _; iexact HO

/-! ## Giving a slot up -/

/-- The next arrival's semaphore has come to its round. -/
theorem stR_reached {d : Bool} {c : Dev nD} {n : ℕ} (h : n ≤ hops d) :
    stR (F := F) d c n ⊢ iprop(reached ER (cell c (.recv d (sr n))) ((n + 1) / 2) ∗ stR d c n) := by
  unfold stR; rw [min_eq_left h, recvPos_eq d c n]
  unfold pos
  iintro ⟨⟨H, ⟨Hat, #Hr⟩⟩, Hc⟩
  isplitr; · iexact Hr
  isplitr [Hc]
  · isplitl [H]; · iexact H
    isplitl [Hat]; · iexact Hat
    iexact Hr
  iexact Hc

/-- A reader puts a slot in its invariant; the writer learns what transfer `j` needs. -/
theorem release {d : Bool} {c : Dev nD} {j : ℕ} :
    iprop(env X0 κ ιs ∗ readPos d c j ∗ free c d (sr (j + 1)) ∗ reached ER (cell c (.recv d (sr (j + 1)))) (j / 2))
      ⊢ |={Set.univ}=> iprop(readPos (F := F) d c (j + 1) ∗ fact d (prv d c) j) := by
  rw [readPos_eq d c j]
  unfold fact
  rw [nxt_prv]
  iintro ⟨#He, ⟨H, H'⟩, Hf, #Hr⟩
  imod (slot_release ES (Set.mem_univ (ιs (c, d, sr (j + 1)))) (free_free_false c d (sr (j + 1))) (j / 2)) $$ [H Hf] with ⟨H, #Hrel⟩
  · isplitr; · iapply (env_slot X0 κ ιs c d (sr (j + 1))); iexact He
    isplitl [H] <;> iassumption
  imodintro
  isplitl [H H']
  · iapply (readPos_next d c j); isplitl [H] <;> iassumption
  isplitr <;> iassumption

theorem facts_next (d : Bool) (c : Dev nD) {j : ℕ} (h : 1 ≤ j) : iprop(facts (F := F) d c (j - 1) ∗ fact d c j) ⊢ facts d c j := by
  unfold facts
  rw [show Finset.Icc 1 j = insert j (Finset.Icc 1 (j - 1)) by
      ext i; simp only [Finset.mem_insert, Finset.mem_Icc]; omega,
    bigSep_insert (by simp only [Finset.mem_Icc]; omega)]
  show _ ⊢ iprop(fact d c j ∗ bigSep (Finset.Icc 1 (j - 1)) (fact d c))
  iintro ⟨H, H'⟩; isplitl [H'] <;> iassumption

theorem mem_credit (c : Dev nD) (d : Bool) {j : ℕ} (h : 1 ≤ j) (h' : j < hops d) : j ∈ (Rd X0).duties (cell c (.credit d)) 0 := by
  rw [duties_credit]; exact Finset.mem_Icc.mpr ⟨h, by omega⟩

theorem step_giveCredit {d : Bool} {c n : Dev nD} {j : ℕ} (h1 : 1 ≤ j) (hj : j < hops d) (hn : n = prv d c) {sm : Sem sig} (hsm : sm = (kA d).sem)
    {k' : ℤ} (hk' : k' = ((1 : ℕ) : ℤ)) {O : CellTallies nD τ sig ℕ}
    {α : Type} {Q : α → sProp 𝕄} {k : PUnit → Prog (TpuEff nD τ sig (Elt F) Λ₀ .tc) α} :
    iprop(env X0 κ ιs ∗ stG d c j ∗ free c d (sr (j + 1)) ∗ reached ER (cell c (.recv d (sr (j + 1)))) (j / 2)
        ∗ ow c (O + tallyAt (cell (prv d c) (.credit d)) j 1))
      ⊢ iprop(((stG d c (j + 1) ∗ ow c O) -∗ WP c (k ⟨⟩) Q) -∗ WP c (.op (.semSignal (Dev.tc n : Thread nD τ) sm k') k) Q) := by
  subst hn hsm hk'
  unfold stG
  rw [min_eq_left hj.le, min_eq_left hj, Idealize.SL.BI.bigSep_Ico_succ_bot hj]
  unfold ow
  iintro ⟨#He, ⟨Hrd, #Hfs, ⟨Ht, Hts⟩⟩, Hf, #Hr, ⟨%W, HO⟩⟩ Hk
  imod (release X0 κ ιs) $$ [Hrd Hf] with ⟨Hrd, #Hfact⟩
  · isplitr; · iexact He
    isplitl [Hrd]; · iexact Hrd
    isplitl [Hf]; · iexact Hf
    iexact Hr
  ihave #Hfs' := (facts_next d (prv d c) h1) $$ []
  · isplitr <;> iassumption
  iapply (Rounds.wp_signal 𝒱₀ ER (Rd X0) (c : Thread nD τ) none (dst := (prv d c : Thread nD τ)) (κ := κ (prv d c, .credit d))
      (r := 0) (d := j) (mem_credit X0 (prv d c) d h1 hj) (amount_cell X0 (prv d c) (.credit d) 0 j) j O rfl) $$ [HO Ht]
  · isplitr; · iapply (env_cell X0 κ ιs (prv d c) (.credit d)); iexact He
    isplitl [HO]; · iexact HO
    isplitl [Ht]; · iexact Ht
    isplitr
    · iapply (show facts d (prv d c) j ⊢ (Rd X0).payload ((prv d c : Thread nD τ), .reg (kA d).sem) 0 j from
        Entails.of_eq (payload_cell X0 (prv d c) (.credit d) 0 j).symm)
      iexact Hfs'
    iapply (env_reached X0 κ ιs (prv d c) (.credit d)); iexact He
  iintro HO
  iapply Hk
  isplitr [HO]
  · isplitl [Hrd]; · iexact Hrd
    isplitr; · rw [Nat.add_sub_cancel]; iexact Hfs'
    iexact Hts
  iexists W; iexact HO

/-! ## The barrier -/

/-- The duty of the neighbour's barrier semaphore that direction `d` pays. -/
def bi (d : Bool) : ℕ := if d then 0 else 1

theorem mem_bar (c : Dev nD) (d : Bool) : bi d ∈ (Rd X0).duties (cell c .bar) 0 := by
  rw [duties_cell]; cases d <;> decide

theorem step_bar {d : Bool} {c n : Dev nD} (hn : n = prv d c) {sm : Sem sig} (hsm : sm = barS)
    {k' : ℤ} (hk' : k' = ((1 : ℕ) : ℤ)) {O : CellTallies nD τ sig ℕ}
    {α : Type} {Q : α → sProp 𝕄} {k : PUnit → Prog (TpuEff nD τ sig (Elt F) Λ₀ .tc) α} :
    iprop(env X0 κ ιs ∗ readPos d c 0 ∗ free c d (sr 1) ∗ dutyTok ER (cell (prv d c) .bar) 0 (bi d) ∗ ow c (O + oweB d c))
      ⊢ iprop(((readPos d c 1 ∗ ow c O) -∗ WP c (k ⟨⟩) Q) -∗ WP c (.op (.semSignal (Dev.tc n : Thread nD τ) sm k') k) Q) := by
  subst hn hsm hk'
  unfold ow oweB
  iintro ⟨#He, Hrd, Hf, Ht, ⟨%W, HO⟩⟩ Hk
  imod (release X0 κ ιs (d := d) (c := c) (j := 0)) $$ [Hrd Hf] with ⟨Hrd, #Hfact⟩
  · isplitr; · iexact He
    isplitl [Hrd]; · iexact Hrd
    isplitl [Hf]; · iexact Hf
    iapply (env_reached X0 κ ιs c (.recv d (sr 1))); iexact He
  have hp : (Rd X0).payload (cell (prv d c) .bar) 0 (bi d) = fact (F := F) d (prv d c) 0 := by
    rw [payload_cell]; cases d <;> rfl
  iapply (Rounds.wp_signal 𝒱₀ ER (Rd X0) (c : Thread nD τ) none (dst := (prv d c : Thread nD τ)) (κ := κ (prv d c, .bar))
      (r := 0) (d := bi d) (mem_bar X0 (prv d c) d) (amount_cell X0 (prv d c) .bar 0 (bi d)) 0 O rfl) $$ [HO Ht]
  · isplitr; · iapply (env_cell X0 κ ιs (prv d c) .bar); iexact He
    isplitl [HO]; · iexact HO
    isplitl [Ht]; · iexact Ht
    isplitr
    · iapply (show fact d (prv d c) 0 ⊢ (Rd X0).payload ((prv d c : Thread nD τ), .reg barS) 0 (bi d) from Entails.of_eq hp.symm)
      iexact Hfact
    iapply (env_reached X0 κ ιs (prv d c) .bar); iexact He
  iintro HO
  iapply Hk
  isplitl [Hrd]; · iexact Hrd
  iexists W; iexact HO

theorem step_barWait {c : Dev nD} {sm : Sem sig} (hsm : sm = barS) {k' : ℤ} (hk' : k' = ((2 : ℕ) : ℤ))
    {O : CellTallies nD τ sig ℕ} (hO : Above O 1)
    {α : Type} {Q : α → sProp 𝕄} {k : PUnit → Prog (TpuEff nD τ sig (Elt F) Λ₀ .tc) α} :
    iprop(env X0 κ ιs ∗ cred (tallyAt (cell c .bar) 0 2) ∗ atPos ER (cell c .bar) 0 ∅ 0 ∗ ow c O)
      ⊢ iprop(((fact true c 0 ∗ fact false c 0 ∗ atPos ER (cell c .bar) 1 ∅ 0 ∗ ow c O) -∗ WP c (k ⟨⟩) Q) -∗ WP c (.op (.semWait sm k') k) Q) := by
  subst hsm hk'
  unfold ow
  iintro ⟨#He, Hc, Hat, ⟨%W, HO⟩⟩ Hk
  have hx : (Rd X0).expect (cell c .bar) 0 = 2 := by rw [expect_cell]; decide
  have hp : bigSep ((Rd X0).duties (cell c .bar) 0 \ ∅) (fun i => (Rd X0).payload (cell c .bar) 0 i)
      = iprop(fact (F := F) true c 0 ∗ fact false c 0) := by
    rw [Finset.sdiff_empty, duties_cell, show kduties .bar 0 = insert 0 {1} from rfl, bigSep_insert (by decide), bigSep_singleton,
      payload_cell, payload_cell]
    rfl
  iapply (Rounds.wp_wait_rest_token 𝒱₀ ER (Rd X0) (c : Thread nD τ) none (κ := κ (c, .bar)) (sm := semOf .bar)
    (wpE_semWait_eq 𝒱₀ (c : Thread nD τ) none Set.univ) (Set.mem_univ _) 0 (O := O) (W := W) (R := 0) (m := 0) (T := ∅)
    ((Nat.zero_add 2).trans hx.symm)) $$ [Hc HO Hat]
  · isplitr; · iapply (env_cell X0 κ ιs c .bar); iexact He
    isplitl [Hc]; · iexact Hc
    isplitl [HO]; · iexact HO
    isplitr; · iapply (env_may X0 κ ιs c .bar 0 1 O (by decide) (le_refl _) hO); iexact He
    iexact Hat
  iintro ⟨HO, Hat, -, Hp⟩
  ihave Hp' := (Entails.of_eq hp) $$ Hp
  icases Hp' with ⟨Ht, Hf⟩
  iapply Hk
  isplitl [Ht]; · iexact Ht
  isplitl [Hf]; · iexact Hf
  isplitl [Hat]; · iexact Hat
  iexists _; iexact HO

/-! ## The end: all semaphores at zero -/

theorem close (c : Dev nD) (k : Kind) (R : ℕ) (hR : ∀ r ≥ R, kduties k r = ∅) :
    iprop(env X0 κ ιs ∗ atPos ER (cell c k) R ∅ 0) ⊢ |={Set.univ}=> (semVal (cell c k) 0 : sProp 𝕄) := by
  iintro ⟨#He, H⟩
  iapply (Rounds.cell_close ER (Rd X0) (Set.mem_univ (κ (c, k))) (fun h => h) (R := R)
    (fun r hr => (duties_cell X0 c k r).trans (hR r hr)))
  isplitr; · iapply (env_cell X0 κ ιs c k); iexact He
  iexact H

end Cert.KernelIdeal.RingProof

end
-- ==== Proof.Slots.lean ====
/-
# The two slots of a buffer: loading from one, storing one, splitting the buffer
-/
module

public import Idealize.ShloMosaic.Lib.Pipeline.ValueKit.Geometry
public import proofs.«01_k».proof.Proof.Steps

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-- The elements of slot `s`. -/
def slotSet (s : Fin 2) : Finset S2x2x2048x256.Idx := (Rect.unit (s := S2x2x2048x256) ![s.val, 0, 0, 0] S1x2x2048x256.size (slot_inb s)).set

theorem mem_slotSet (s : Fin 2) (i : S2x2x2048x256.Idx) : i ∈ slotSet s ↔ (i 0).val = s.val := by
  unfold slotSet
  rw [Rect.mem_set_unit]
  constructor
  · intro h; have := h 0
    change s.val ≤ (i 0).val ∧ (i 0).val < s.val + 1 at this
    omega
  · intro h a
    have ha := (i a).isLt
    match a with
    | ⟨0, _⟩ => exact ⟨le_of_eq h.symm, by show (i 0).val < s.val + 1; omega⟩
    | ⟨1, _⟩ => exact ⟨Nat.zero_le _, by simpa using ha⟩
    | ⟨2, _⟩ => exact ⟨Nat.zero_le _, by simpa using ha⟩
    | ⟨3, _⟩ => exact ⟨Nat.zero_le _, by simpa using ha⟩

theorem slot_set_t (s : Fin 2) : (slotM rM s).view.set = slotSet s := by
  unfold slotM slotSet
  exact (View.set_reshape _ _).trans (View.set_slice_whole _ _)
theorem slot_set_f (s : Fin 2) : (slotM gM s).view.set = slotSet s := by
  unfold slotM slotSet
  exact (View.set_reshape _ _).trans (View.set_slice_whole _ _)

theorem slots_disjoint : Disjoint (slotSet 0) (slotSet 1) :=
  Finset.disjoint_left.mpr fun i h0 h1 => by
    rw [mem_slotSet] at h0 h1; rw [h0] at h1; exact absurd h1 (by decide)
theorem slots_union : (Finset.univ : Finset S2x2x2048x256.Idx) = slotSet 0 ∪ slotSet 1 :=
  (Finset.eq_univ_iff_forall.mpr fun i => by
    rw [Finset.mem_union, mem_slotSet, mem_slotSet]
    have : (i 0).val < 2 := (i 0).isLt
    show (i 0).val = 0 ∨ (i 0).val = 1
    omega).symm

/-- Half of a block: its keys (`p = 0`) or its values (`p = 1`), as a load of them reads. -/
def half (p : Fin 2) (X : Blk F) : S1x1x2048x256.Idx → Elt F .bf16 := fun i => X (ValueIdx.ix3 p (i 2) (i 3))

/-- An element of one half of a slot, found in the buffer through the slot and directly. -/
theorem half_emb (s p : Fin 2) {off : Fin 4 → ℕ} (hoff : off = ![s.val, p.val, 0, 0])
    (inb : ∀ a, off a + S1x1x2048x256.size a ≤ S2x2x2048x256.size a)
    (hn : S2x2048x256.numel = S1x2x2048x256.numel) (i : S1x1x2048x256.Idx) :
    (Rect.unit (s := S2x2x2048x256) ![s.val, 0, 0, 0] S1x2x2048x256.size (slot_inb s)).emb
        (Shape.reshapeEquiv hn (ValueIdx.ix3 p (i 2) (i 3)))
      = (Rect.unit (s := S2x2x2048x256) off S1x1x2048x256.size inb).emb i := by
  subst hoff
  rw [ValueIdx.reshapeEquiv_ix3_1abc (a := 2) (b := 2048) (c := 256) hn p (i 2) (i 3)]
  funext a
  refine Fin.ext ?_
  rw [ValueKit.rect_emb_unit_val, ValueKit.rect_emb_unit_val]
  have h0 : (i 0).val < 1 := (i 0).isLt
  have h1 : (i 1).val < 1 := (i 1).isLt
  match a with
  | ⟨0, _⟩ => show s.val + 0 = s.val + (i 0).val; omega
  | ⟨1, _⟩ => show 0 + p.val = p.val + (i 1).val; omega
  | ⟨2, _⟩ => rfl
  | ⟨3, _⟩ => rfl

theorem numel_slot : S2x2048x256.numel = S1x2x2048x256.numel := by decide

/-- A load of one half of a held slot reads that half of its block. -/
theorem half_read (M : Memref sig .tc .vmem S2x2x2048x256 .bf16) (s p : Fin 2) {off : Fin 4 → ℕ} (hoff : off = ![s.val, p.val, 0, 0])
    (inb : ∀ a, off a + S1x1x2048x256.size a ≤ S2x2x2048x256.size a) {f : M.view.ty.Contents (Elt F)} {X : Blk F}
    (hf : (slotM M s).view.read (Elt F) f = X) :
    (M.access (Rect.unit (s := S2x2x2048x256) off S1x1x2048x256.size inb)).read (Elt F) f = half p X := by
  subst hf
  funext i
  show M.view.read (Elt F) f ((Rect.unit (s := S2x2x2048x256) off S1x1x2048x256.size inb).emb i) = _
  rw [← half_emb s p hoff inb numel_slot i]
  rfl

theorem half_set (M : Memref sig .tc .vmem S2x2x2048x256 .bf16) (s p : Fin 2) {off : Fin 4 → ℕ} (hoff : off = ![s.val, p.val, 0, 0])
    (inb : ∀ a, off a + S1x1x2048x256.size a ≤ S2x2x2048x256.size a) :
    (M.access (Rect.unit (s := S2x2x2048x256) off S1x1x2048x256.size inb)).set ⊆ (slotM M s).view.set := by
  intro x hx
  obtain ⟨i, -, rfl⟩ := Finset.mem_map.mp hx
  show M.view.emb ((Rect.unit (s := S2x2x2048x256) off S1x1x2048x256.size inb).emb i) ∈ _
  rw [← half_emb s p hoff inb numel_slot i]
  exact View.emb_mem_set (slotM M s).view (ValueIdx.ix3 p (i 2) (i 3))

theorem step_load {M : Memref sig .tc .vmem S2x2x2048x256 .bf16} {d : Bool} (hM : M = bufM d) {c : Dev nD} {s : Fin 2} (p : Fin 2)
    {off : Fin 4 → ℕ} (hoff : off = ![s.val, p.val, 0, 0])
    {inb : ∀ a, off a + S1x1x2048x256.size a ≤ S2x2x2048x256.size a} {hl} {q : PosShare TreeShare} {X : Blk F}
    {α : Type} {Q : α → sProp 𝕄} {k : (S1x1x2048x256.Idx → Elt F .bf16) → Prog (TpuEff nD τ sig (Elt F) Λ₀ .tc) α} :
    owns (c : Thread nD τ) (slotM (bufM d) s) q X
      ⊢ iprop((owns (c : Thread nD τ) (slotM (bufM d) s) q X -∗ WP c (k (half p X)) Q)
          -∗ WP c (.op (.load M (Rect.unit (s := S2x2x2048x256) off S1x1x2048x256.size inb).toLoadRect hl) k) Q) := by
  subst hM
  have key (f) : ((((slotM (bufM d) s).view.loc (c : Thread nD τ)) ↦[(slotM (bufM d) s).view.set]{q} f) : sProp 𝕄)
      ⊢ iprop((((((slotM (bufM d) s).view.loc (c : Thread nD τ)) ↦[(slotM (bufM d) s).view.set]{q} f) : sProp 𝕄) -∗ WP c (k (((bufM d).access (Rect.unit (s := S2x2x2048x256) off S1x1x2048x256.size inb)).read (Elt F) f)) Q)
        -∗ WP c (.op (.load (bufM d) (Rect.unit (s := S2x2x2048x256) off S1x1x2048x256.size inb).toLoadRect hl) k) Q) :=
    wp_load_rect 𝒱₀ (c : Thread nD τ) none Set.univ (m := bufM d) (half_set (bufM d) s p hoff inb)
  unfold owns
  iintro ⟨%f, %hf, H⟩ Hk
  iapply key f $$ H
  iintro H
  rw [half_read (bufM d) s p hoff inb hf]
  iapply Hk
  iexists f; isplitr; · (ipureintro; exact hf)
  iexact H

/-! ## Storing a block in a slot -/

theorem slot_set_access (M : Memref sig .tc .vmem S2x2x2048x256 .bf16) (s : Fin 2) {off : Fin 4 → ℕ} (hoff : off = ![s.val, 0, 0, 0]) (inb) :
    (M.access (Rect.unit (s := S2x2x2048x256) off S1x2x2048x256.size inb)).set = (slotM M s).view.set := by
  subst hoff
  unfold slotM
  exact (View.set_reshape _ _).symm

theorem slot_read_write (M : Memref sig .tc .vmem S2x2x2048x256 .bf16) (s : Fin 2) {off : Fin 4 → ℕ} (hoff : off = ![s.val, 0, 0, 0]) (inb)
    (f : M.view.ty.Contents (Elt F)) (Y : Blk F) (h : S2x2048x256.ShapeCasts S1x2x2048x256) :
    (slotM M s).view.read (Elt F)
      ((M.access (Rect.unit (s := S2x2x2048x256) off S1x2x2048x256.size inb)).write (Elt F) f (shapeCast S1x2x2048x256 Y h) Finset.univ) = Y := by
  subst hoff
  funext x
  have := congrFun (View.read_write_univ (v := M.access (Rect.unit (s := S2x2x2048x256) ![s.val, 0, 0, 0] S1x2x2048x256.size inb)) f
    (shapeCast S1x2x2048x256 Y h)) (Shape.reshapeEquiv numel_slot x)
  refine Eq.trans ?_ (this.trans ?_)
  · rfl
  · unfold shapeCast
    rw [Shape.reshapeEquiv_reshapeEquiv, Shape.reshapeEquiv_self]

theorem slot_store (M : Memref sig .tc .vmem S2x2x2048x256 .bf16) {c : Dev nD} (s : Fin 2)
    {off : Fin 4 → ℕ} (hoff : off = ![s.val, 0, 0, 0])
    {inb : ∀ a, off a + S1x2x2048x256.size a ≤ S2x2x2048x256.size a} {w : S1x2x2048x256.Idx → Elt F .bf16} {hx hm}
    {α : Type} {Q : α → sProp 𝕄} {k : PUnit → Prog (TpuEff nD τ sig (Elt F) Λ₀ .tc) α} (f : Buf (Elt F) ((M.access (Rect.unit (s := S2x2x2048x256) off S1x2x2048x256.size inb)).loc (c : Thread nD τ))) :
    (((M.access (Rect.unit (s := S2x2x2048x256) off S1x2x2048x256.size inb)).loc (c : Thread nD τ) ↦[(slotM M s).view.set]{fullShare} f) : sProp 𝕄)
      ⊢ iprop((((M.access (Rect.unit (s := S2x2x2048x256) off S1x2x2048x256.size inb)).loc (c : Thread nD τ) ↦[(slotM M s).view.set]{fullShare}
            ((M.access (Rect.unit (s := S2x2x2048x256) off S1x2x2048x256.size inb)).write (Elt F) f w Finset.univ)) -∗ WP c (k ⟨⟩) Q)
        -∗ WP c (.op (.store M (Rect.unit (s := S2x2x2048x256) off S1x2x2048x256.size inb) w Finset.univ hx hm) k) Q) :=
  by
  have hS : (M.access (Rect.unit (s := S2x2x2048x256) off S1x2x2048x256.size inb)).setOn Finset.univ ⊆ (slotM M s).view.set := by
    rw [View.setOn_univ, slot_set_access M s hoff inb]; exact Finset.Subset.refl _
  generalize (slotM M s).view.set = S at hS ⊢
  exact wp_store 𝒱₀ (c : Thread nD τ) none Set.univ (m := M) (Mk := Finset.univ) hS

theorem slot_store' (M : Memref sig .tc .vmem S2x2x2048x256 .bf16) {c : Dev nD} (s : Fin 2)
    {off : Fin 4 → ℕ} (hoff : off = ![s.val, 0, 0, 0])
    {inb : ∀ a, off a + S1x2x2048x256.size a ≤ S2x2x2048x256.size a} {w : S1x2x2048x256.Idx → Elt F .bf16} {Y : Blk F}
    (h : S2x2048x256.ShapeCasts S1x2x2048x256)
    (hw : w = shapeCast S1x2x2048x256 Y h) {hx hm}
    {α : Type} {Q : α → sProp 𝕄} {k : PUnit → Prog (TpuEff nD τ sig (Elt F) Λ₀ .tc) α} (f : Buf (Elt F) ((M.access (Rect.unit (s := S2x2x2048x256) off S1x2x2048x256.size inb)).loc (c : Thread nD τ))) :
    ∃ g : Buf (Elt F) ((M.access (Rect.unit (s := S2x2x2048x256) off S1x2x2048x256.size inb)).loc (c : Thread nD τ)), (slotM M s).view.read (Elt F) g = Y ∧
      ((((M.access (Rect.unit (s := S2x2x2048x256) off S1x2x2048x256.size inb)).loc (c : Thread nD τ) ↦[(slotM M s).view.set]{fullShare} f) : sProp 𝕄)
      ⊢ iprop((((M.access (Rect.unit (s := S2x2x2048x256) off S1x2x2048x256.size inb)).loc (c : Thread nD τ) ↦[(slotM M s).view.set]{fullShare} g) -∗ WP c (k ⟨⟩) Q)
        -∗ WP c (.op (.store M (Rect.unit (s := S2x2x2048x256) off S1x2x2048x256.size inb) w Finset.univ hx hm) k) Q)) :=
  ⟨_, by rw [hw]; exact slot_read_write M s hoff inb f Y h, slot_store M s hoff f⟩

theorem step_store {M : Memref sig .tc .vmem S2x2x2048x256 .bf16} {d : Bool} (hM : M = bufM d) {c : Dev nD} (s : Fin 2)
    {off : Fin 4 → ℕ} (hoff : off = ![s.val, 0, 0, 0])
    {inb : ∀ a, off a + S1x2x2048x256.size a ≤ S2x2x2048x256.size a} {w : S1x2x2048x256.Idx → Elt F .bf16} {Y : Blk F}
    (h : S2x2048x256.ShapeCasts S1x2x2048x256)
    (hw : w = shapeCast S1x2x2048x256 Y h) {hx hm}
    {α : Type} {Q : α → sProp 𝕄} {k : PUnit → Prog (TpuEff nD τ sig (Elt F) Λ₀ .tc) α} :
    free c d s
      ⊢ iprop((owns (c : Thread nD τ) (slotM (bufM d) s) fullShare Y -∗ WP c (k ⟨⟩) Q)
          -∗ WP c (.op (.store M (Rect.unit (s := S2x2x2048x256) off S1x2x2048x256.size inb) w Finset.univ hx hm) k) Q) := by
  subst hM
  have key (f : Buf (Elt F) ((slotM (bufM d) s).view.loc (c : Thread nD τ))) :
      ∃ g : Buf (Elt F) ((slotM (bufM d) s).view.loc (c : Thread nD τ)), (slotM (bufM d) s).view.read (Elt F) g = Y ∧
      (((((slotM (bufM d) s).view.loc (c : Thread nD τ)) ↦[(slotM (bufM d) s).view.set]{fullShare} f) : sProp 𝕄)
      ⊢ iprop((((((slotM (bufM d) s).view.loc (c : Thread nD τ)) ↦[(slotM (bufM d) s).view.set]{fullShare} g) : sProp 𝕄) -∗ WP c (k ⟨⟩) Q)
        -∗ WP c (.op (.store (bufM d) (Rect.unit (s := S2x2x2048x256) off S1x2x2048x256.size inb) w Finset.univ hx hm) k) Q)) := by
    obtain ⟨g, hg, hst⟩ := slot_store' (bufM d) (c := c) s hoff (inb := inb) h hw (hx := hx) (hm := hm) (Q := Q) (k := k) f
    exact ⟨g, hg, hst⟩
  unfold free owns
  iintro ⟨%X, %f, %hf, H⟩ Hk
  obtain ⟨g, hg, hst⟩ := key f
  iapply hst $$ H
  iintro H
  iapply Hk
  iexists g
  isplitr; · (ipureintro; exact hg)
  iexact H

theorem step_loadSlot {M : Memref sig .tc .vmem S2x2x2048x256 .bf16} {d : Bool} (hM : M = bufM d) {c : Dev nD} (s : Fin 2)
    {off : Fin 4 → ℕ} (hoff : off = ![s.val, 0, 0, 0])
    {inb : ∀ a, off a + S1x2x2048x256.size a ≤ S2x2x2048x256.size a} {hl}
    {α : Type} {Q : α → sProp 𝕄} {k : (S1x2x2048x256.Idx → Elt F .bf16) → Prog (TpuEff nD τ sig (Elt F) Λ₀ .tc) α} :
    free c d s
      ⊢ iprop((∀ v, free c d s -∗ WP c (k v) Q)
          -∗ WP c (.op (.load M (Rect.unit (s := S2x2x2048x256) off S1x2x2048x256.size inb).toLoadRect hl) k) Q) := by
  subst hM
  have key (f) : ((((slotM (bufM d) s).view.loc (c : Thread nD τ)) ↦[(slotM (bufM d) s).view.set]{fullShare} f) : sProp 𝕄)
      ⊢ iprop((((((slotM (bufM d) s).view.loc (c : Thread nD τ)) ↦[(slotM (bufM d) s).view.set]{fullShare} f) : sProp 𝕄) -∗ WP c (k (((bufM d).access (Rect.unit (s := S2x2x2048x256) off S1x2x2048x256.size inb)).read (Elt F) f)) Q)
        -∗ WP c (.op (.load (bufM d) (Rect.unit (s := S2x2x2048x256) off S1x2x2048x256.size inb).toLoadRect hl) k) Q) :=
    wp_load_rect 𝒱₀ (c : Thread nD τ) none Set.univ (m := bufM d) (le_of_eq (slot_set_access (bufM d) s hoff inb))
  unfold free owns
  iintro ⟨%X, %f, %hf, H⟩ Hk
  iapply key f $$ H
  iintro H
  iapply Hk $$ %_
  iexists X; iexists f; isplitr; · (ipureintro; exact hf)
  iexact H

/-! ## A buffer as its two slots -/

/-- The whole buffer of direction `d`. -/
abbrev bufRef (d : Bool) : Ref sig .tc := match d with | true => cc0_scratch0 | false => cc0_scratch1

theorem buf_split (c : Dev nD) (d : Bool) : (iprop(∃ f : Buf (Elt F) ((c : Thread nD τ).loc (bufRef d)), ((c : Thread nD τ).loc (bufRef d)) ↦{fullShare} f) : sProp 𝕄)
    ⊢ iprop(free c d 0 ∗ free c d 1) := by
  unfold free owns
  cases d
  · iintro ⟨%f, H⟩
    ihave H' := (show (((c : Thread nD τ).loc cc0_scratch1) ↦{fullShare} f : sProp 𝕄)
        ⊢ iprop((((c : Thread nD τ).loc cc0_scratch1) ↦[slotSet 0]{fullShare} f) ∗ (((c : Thread nD τ).loc cc0_scratch1) ↦[slotSet 1]{fullShare} f)) from by
      rw [show (Finset.univ : Finset (Idx ((c : Thread nD τ).loc cc0_scratch1))) = slotSet 0 ∪ slotSet 1 from slots_union]
      exact (pointsTo_union slots_disjoint).1) $$ H
    icases H' with ⟨H0, H1⟩
    isplitl [H0]
    · iexists _, f; isplitr; · (ipureintro; rfl)
      rw [show (slotM (bufM false) 0).view.set = slotSet 0 from slot_set_f 0]; iexact H0
    · iexists _, f; isplitr; · (ipureintro; rfl)
      rw [show (slotM (bufM false) 1).view.set = slotSet 1 from slot_set_f 1]; iexact H1
  · iintro ⟨%f, H⟩
    ihave H' := (show (((c : Thread nD τ).loc cc0_scratch0) ↦{fullShare} f : sProp 𝕄)
        ⊢ iprop((((c : Thread nD τ).loc cc0_scratch0) ↦[slotSet 0]{fullShare} f) ∗ (((c : Thread nD τ).loc cc0_scratch0) ↦[slotSet 1]{fullShare} f)) from by
      rw [show (Finset.univ : Finset (Idx ((c : Thread nD τ).loc cc0_scratch0))) = slotSet 0 ∪ slotSet 1 from slots_union]
      exact (pointsTo_union slots_disjoint).1) $$ H
    icases H' with ⟨H0, H1⟩
    isplitl [H0]
    · iexists _, f; isplitr; · (ipureintro; rfl)
      rw [show (slotM (bufM true) 0).view.set = slotSet 0 from slot_set_t 0]; iexact H0
    · iexists _, f; isplitr; · (ipureintro; rfl)
      rw [show (slotM (bufM true) 1).view.set = slotSet 1 from slot_set_t 1]; iexact H1

theorem buf_join (c : Dev nD) (d : Bool) : iprop(free c d 0 ∗ free c d 1)
    ⊢ (iprop(∃ f : Buf (Elt F) ((c : Thread nD τ).loc (bufRef d)), ((c : Thread nD τ).loc (bufRef d)) ↦{fullShare} f) : sProp 𝕄) := by
  unfold free owns
  cases d
  · iintro ⟨⟨%X, %f, -, H0⟩, ⟨%Y, %g, -, H1⟩⟩
    iexists (slotSet 1).piecewise g f
    iapply (show iprop((((c : Thread nD τ).loc cc0_scratch1) ↦[slotSet 0]{fullShare} f) ∗ (((c : Thread nD τ).loc cc0_scratch1) ↦[slotSet 1]{fullShare} g))
        ⊢ (((c : Thread nD τ).loc cc0_scratch1) ↦{fullShare} (slotSet 1).piecewise g f : sProp 𝕄) from by
      rw [show (Finset.univ : Finset (Idx ((c : Thread nD τ).loc cc0_scratch1))) = slotSet 0 ∪ slotSet 1 from slots_union]
      exact pointsTo_join slots_disjoint)
    isplitl [H0]
    · rw [← show (slotM (bufM false) 0).view.set = slotSet 0 from slot_set_f 0]; iexact H0
    · rw [← show (slotM (bufM false) 1).view.set = slotSet 1 from slot_set_f 1]; iexact H1
  · iintro ⟨⟨%X, %f, -, H0⟩, ⟨%Y, %g, -, H1⟩⟩
    iexists (slotSet 1).piecewise g f
    iapply (show iprop((((c : Thread nD τ).loc cc0_scratch0) ↦[slotSet 0]{fullShare} f) ∗ (((c : Thread nD τ).loc cc0_scratch0) ↦[slotSet 1]{fullShare} g))
        ⊢ (((c : Thread nD τ).loc cc0_scratch0) ↦{fullShare} (slotSet 1).piecewise g f : sProp 𝕄) from by
      rw [show (Finset.univ : Finset (Idx ((c : Thread nD τ).loc cc0_scratch0))) = slotSet 0 ∪ slotSet 1 from slots_union]
      exact pointsTo_join slots_disjoint)
    isplitl [H0]
    · rw [← show (slotM (bufM true) 0).view.set = slotSet 0 from slot_set_t 0]; iexact H0
    · rw [← show (slotM (bufM true) 1).view.set = slotSet 1 from slot_set_t 1]; iexact H1

end Cert.KernelIdeal.RingProof

end
-- ==== Proof.Tiles.lean ====
/-
# One block's share of the computation: its score tiles, its row sums and its weighted sums
-/
module

public import proofs.«01_k».proof.Proof.Slots

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## The buffers the computation works on -/

/-- The query block held by device `c`. -/
abbrev qpt (c : Dev nD) (f : Buf (Elt F) ((c : Thread nD τ).loc cc0_scratch2)) : sProp 𝕄 := ((c : Thread nD τ).loc cc0_scratch2) ↦{fullShare} f
/-- The weighted sums so far. -/
abbrev apt (c : Dev nD) (f : Buf (Elt F) ((c : Thread nD τ).loc cc0_scratch3)) : sProp 𝕄 := ((c : Thread nD τ).loc cc0_scratch3) ↦{fullShare} f
/-- The row sums so far. -/
abbrev lpt (c : Dev nD) (f : Buf (Elt F) ((c : Thread nD τ).loc cc0_scratch4)) : sProp 𝕄 := ((c : Thread nD τ).loc cc0_scratch4) ↦{fullShare} f

theorem ld_q {c : Dev nD} {o sz : Fin 2 → ℕ} {inb : ∀ a, o a + sz a ≤ S2048x256.size a} {hl}
    {f : Buf (Elt F) ((c : Thread nD τ).loc cc0_scratch2)} {α : Type} {Q : α → sProp 𝕄}
    {k : ((Rect.unit (s := S2048x256) o sz inb).shape.Idx → Elt F .bf16) → Prog (TpuEff nD τ sig (Elt F) Λ₀ .tc) α} :
    qpt c f ⊢ iprop((qpt c f -∗ WP c (k ((qM.access (Rect.unit (s := S2048x256) o sz inb)).read (Elt F) f)) Q)
      -∗ WP c (.op (.load qM (Rect.unit (s := S2048x256) o sz inb).toLoadRect hl) k) Q) :=
  wp_load_rect (defs := defs₀) (Γ := .nil) (Λ := Λ₀) (Val := Elt F) (Name := ℕ) (U := UU) (Lvl := ℕ) 𝒱₀ (c : Thread nD τ) none Set.univ (m := qM)
    (r := (Rect.unit (s := S2048x256) o sz inb)) (hl := hl) (k := k) (Q := Q) (q := fullShare) (S := Finset.univ) (f := f) (Finset.subset_univ _)

theorem st_q {c : Dev nD} {o sz : Fin 2 → ℕ} {inb : ∀ a, o a + sz a ≤ S2048x256.size a} {hx hm}
    {f : Buf (Elt F) ((c : Thread nD τ).loc cc0_scratch2)}
    {w : (Rect.unit (s := S2048x256) o sz inb).shape.Idx → Elt F .bf16} {α : Type} {Q : α → sProp 𝕄}
    {k : PUnit → Prog (TpuEff nD τ sig (Elt F) Λ₀ .tc) α} :
    qpt c f ⊢ iprop((qpt c ((qM.access (Rect.unit (s := S2048x256) o sz inb)).write (Elt F) f w Finset.univ) -∗ WP c (k ⟨⟩) Q)
      -∗ WP c (.op (.store qM (Rect.unit (s := S2048x256) o sz inb) w Finset.univ hx hm) k) Q) :=
  wp_store (defs := defs₀) (Γ := .nil) (Λ := Λ₀) (Val := Elt F) (Name := ℕ) (U := UU) (Lvl := ℕ) 𝒱₀ (c : Thread nD τ) none Set.univ (m := qM)
    (r := (Rect.unit (s := S2048x256) o sz inb)) (w := w) (hx := hx) (hm := hm) (k := k) (Q := Q) (S := Finset.univ) (f := f) (Mk := Finset.univ) (Finset.subset_univ _)

theorem ld_a {c : Dev nD} {o sz : Fin 2 → ℕ} {inb : ∀ a, o a + sz a ≤ S2048x256.size a} {hl}
    {f : Buf (Elt F) ((c : Thread nD τ).loc cc0_scratch3)} {α : Type} {Q : α → sProp 𝕄}
    {k : ((Rect.unit (s := S2048x256) o sz inb).shape.Idx → Elt F .f32) → Prog (TpuEff nD τ sig (Elt F) Λ₀ .tc) α} :
    apt c f ⊢ iprop((apt c f -∗ WP c (k ((aM.access (Rect.unit (s := S2048x256) o sz inb)).read (Elt F) f)) Q)
      -∗ WP c (.op (.load aM (Rect.unit (s := S2048x256) o sz inb).toLoadRect hl) k) Q) :=
  wp_load_rect (defs := defs₀) (Γ := .nil) (Λ := Λ₀) (Val := Elt F) (Name := ℕ) (U := UU) (Lvl := ℕ) 𝒱₀ (c : Thread nD τ) none Set.univ (m := aM)
    (r := (Rect.unit (s := S2048x256) o sz inb)) (hl := hl) (k := k) (Q := Q) (q := fullShare) (S := Finset.univ) (f := f) (Finset.subset_univ _)

theorem st_a {c : Dev nD} {o sz : Fin 2 → ℕ} {inb : ∀ a, o a + sz a ≤ S2048x256.size a} {hx hm}
    {f : Buf (Elt F) ((c : Thread nD τ).loc cc0_scratch3)}
    {w : (Rect.unit (s := S2048x256) o sz inb).shape.Idx → Elt F .f32} {α : Type} {Q : α → sProp 𝕄}
    {k : PUnit → Prog (TpuEff nD τ sig (Elt F) Λ₀ .tc) α} :
    apt c f ⊢ iprop((apt c ((aM.access (Rect.unit (s := S2048x256) o sz inb)).write (Elt F) f w Finset.univ) -∗ WP c (k ⟨⟩) Q)
      -∗ WP c (.op (.store aM (Rect.unit (s := S2048x256) o sz inb) w Finset.univ hx hm) k) Q) :=
  wp_store (defs := defs₀) (Γ := .nil) (Λ := Λ₀) (Val := Elt F) (Name := ℕ) (U := UU) (Lvl := ℕ) 𝒱₀ (c : Thread nD τ) none Set.univ (m := aM)
    (r := (Rect.unit (s := S2048x256) o sz inb)) (w := w) (hx := hx) (hm := hm) (k := k) (Q := Q) (S := Finset.univ) (f := f) (Mk := Finset.univ) (Finset.subset_univ _)

theorem ld_l {c : Dev nD} {o sz : Fin 2 → ℕ} {inb : ∀ a, o a + sz a ≤ S2048x1.size a} {hl}
    {f : Buf (Elt F) ((c : Thread nD τ).loc cc0_scratch4)} {α : Type} {Q : α → sProp 𝕄}
    {k : ((Rect.unit (s := S2048x1) o sz inb).shape.Idx → Elt F .f32) → Prog (TpuEff nD τ sig (Elt F) Λ₀ .tc) α} :
    lpt c f ⊢ iprop((lpt c f -∗ WP c (k ((lM.access (Rect.unit (s := S2048x1) o sz inb)).read (Elt F) f)) Q)
      -∗ WP c (.op (.load lM (Rect.unit (s := S2048x1) o sz inb).toLoadRect hl) k) Q) :=
  wp_load_rect (defs := defs₀) (Γ := .nil) (Λ := Λ₀) (Val := Elt F) (Name := ℕ) (U := UU) (Lvl := ℕ) 𝒱₀ (c : Thread nD τ) none Set.univ (m := lM)
    (r := (Rect.unit (s := S2048x1) o sz inb)) (hl := hl) (k := k) (Q := Q) (q := fullShare) (S := Finset.univ) (f := f) (Finset.subset_univ _)

theorem st_l {c : Dev nD} {o sz : Fin 2 → ℕ} {inb : ∀ a, o a + sz a ≤ S2048x1.size a} {hx hm}
    {f : Buf (Elt F) ((c : Thread nD τ).loc cc0_scratch4)}
    {w : (Rect.unit (s := S2048x1) o sz inb).shape.Idx → Elt F .f32} {α : Type} {Q : α → sProp 𝕄}
    {k : PUnit → Prog (TpuEff nD τ sig (Elt F) Λ₀ .tc) α} :
    lpt c f ⊢ iprop((lpt c ((lM.access (Rect.unit (s := S2048x1) o sz inb)).write (Elt F) f w Finset.univ) -∗ WP c (k ⟨⟩) Q)
      -∗ WP c (.op (.store lM (Rect.unit (s := S2048x1) o sz inb) w Finset.univ hx hm) k) Q) :=
  wp_store (defs := defs₀) (Γ := .nil) (Λ := Λ₀) (Val := Elt F) (Name := ℕ) (U := UU) (Lvl := ℕ) 𝒱₀ (c : Thread nD τ) none Set.univ (m := lM)
    (r := (Rect.unit (s := S2048x1) o sz inb)) (w := w) (hx := hx) (hm := hm) (k := k) (Q := Q) (S := Finset.univ) (f := f) (Mk := Finset.univ) (Finset.subset_univ _)

/-! ## One block -/

/-- The keys of a block. -/
def keys (X : Blk F) : FVec F S2048x256 .bf16 := k0_pay7 (half 0 X)
/-- The values of a block. -/
def vals (X : Blk F) : FVec F S2048x256 .bf16 := k0_pay8 (half 1 X)

abbrev rdQ0 (Q : S2048x256.Idx → Elt F .bf16) : FVec F S512x256 .bf16 :=
  (qM.access (Rect.unit (s := S2048x256) ![0, 0] S512x256.size inb_S2048x256_S512x256_0_0)).read (Elt F) Q
abbrev rdL0 (f : S2048x1.Idx → Elt F .f32) : FVec F S512x1 .f32 :=
  (lM.access (Rect.unit (s := S2048x1) ![0, 0] S512x1.size inb_S2048x1_S512x1_0_0)).read (Elt F) f
abbrev rdA0 (f : S2048x256.Idx → Elt F .f32) : FVec F S512x256 .f32 :=
  (aM.access (Rect.unit (s := S2048x256) ![0, 0] S512x256.size inb_S2048x256_S512x256_0_0)).read (Elt F) f
/-- The row sums after the rows from 0 have taken a block's keys in. -/
abbrev lT0 (K : FVec F S2048x256 .bf16) (Q : S2048x256.Idx → Elt F .bf16) (f : S2048x1.Idx → Elt F .f32) : S2048x1.Idx → Elt F .f32 :=
  (lM.access (Rect.unit (s := S2048x1) ![0, 0] S512x1.size inb_S2048x1_S512x1_0_0)).write (Elt F) f
    (k0_pay4 K (rdQ0 Q) (rdL0 f)) Finset.univ
/-- The weighted sums after the rows from 0 have taken a block in. -/
abbrev aT0 (K V : FVec F S2048x256 .bf16) (Q : S2048x256.Idx → Elt F .bf16) (f : S2048x256.Idx → Elt F .f32) : S2048x256.Idx → Elt F .f32 :=
  (aM.access (Rect.unit (s := S2048x256) ![0, 0] S512x256.size inb_S2048x256_S512x256_0_0)).write (Elt F) f
    (k0_pay5 K V (rdQ0 Q) (rdA0 f)) Finset.univ

abbrev rdQ1 (Q : S2048x256.Idx → Elt F .bf16) : FVec F S512x256 .bf16 :=
  (qM.access (Rect.unit (s := S2048x256) ![512, 0] S512x256.size inb_S2048x256_S512x256_512_0)).read (Elt F) Q
abbrev rdL1 (f : S2048x1.Idx → Elt F .f32) : FVec F S512x1 .f32 :=
  (lM.access (Rect.unit (s := S2048x1) ![512, 0] S512x1.size inb_S2048x1_S512x1_512_0)).read (Elt F) f
abbrev rdA1 (f : S2048x256.Idx → Elt F .f32) : FVec F S512x256 .f32 :=
  (aM.access (Rect.unit (s := S2048x256) ![512, 0] S512x256.size inb_S2048x256_S512x256_512_0)).read (Elt F) f
/-- The row sums after the rows from 512 have taken a block's keys in. -/
abbrev lT1 (K : FVec F S2048x256 .bf16) (Q : S2048x256.Idx → Elt F .bf16) (f : S2048x1.Idx → Elt F .f32) : S2048x1.Idx → Elt F .f32 :=
  (lM.access (Rect.unit (s := S2048x1) ![512, 0] S512x1.size inb_S2048x1_S512x1_512_0)).write (Elt F) f
    (k0_pay4 K (rdQ1 Q) (rdL1 f)) Finset.univ
/-- The weighted sums after the rows from 512 have taken a block in. -/
abbrev aT1 (K V : FVec F S2048x256 .bf16) (Q : S2048x256.Idx → Elt F .bf16) (f : S2048x256.Idx → Elt F .f32) : S2048x256.Idx → Elt F .f32 :=
  (aM.access (Rect.unit (s := S2048x256) ![512, 0] S512x256.size inb_S2048x256_S512x256_512_0)).write (Elt F) f
    (k0_pay5 K V (rdQ1 Q) (rdA1 f)) Finset.univ

abbrev rdQ2 (Q : S2048x256.Idx → Elt F .bf16) : FVec F S512x256 .bf16 :=
  (qM.access (Rect.unit (s := S2048x256) ![1024, 0] S512x256.size inb_S2048x256_S512x256_1024_0)).read (Elt F) Q
abbrev rdL2 (f : S2048x1.Idx → Elt F .f32) : FVec F S512x1 .f32 :=
  (lM.access (Rect.unit (s := S2048x1) ![1024, 0] S512x1.size inb_S2048x1_S512x1_1024_0)).read (Elt F) f
abbrev rdA2 (f : S2048x256.Idx → Elt F .f32) : FVec F S512x256 .f32 :=
  (aM.access (Rect.unit (s := S2048x256) ![1024, 0] S512x256.size inb_S2048x256_S512x256_1024_0)).read (Elt F) f
/-- The row sums after the rows from 1024 have taken a block's keys in. -/
abbrev lT2 (K : FVec F S2048x256 .bf16) (Q : S2048x256.Idx → Elt F .bf16) (f : S2048x1.Idx → Elt F .f32) : S2048x1.Idx → Elt F .f32 :=
  (lM.access (Rect.unit (s := S2048x1) ![1024, 0] S512x1.size inb_S2048x1_S512x1_1024_0)).write (Elt F) f
    (k0_pay4 K (rdQ2 Q) (rdL2 f)) Finset.univ
/-- The weighted sums after the rows from 1024 have taken a block in. -/
abbrev aT2 (K V : FVec F S2048x256 .bf16) (Q : S2048x256.Idx → Elt F .bf16) (f : S2048x256.Idx → Elt F .f32) : S2048x256.Idx → Elt F .f32 :=
  (aM.access (Rect.unit (s := S2048x256) ![1024, 0] S512x256.size inb_S2048x256_S512x256_1024_0)).write (Elt F) f
    (k0_pay5 K V (rdQ2 Q) (rdA2 f)) Finset.univ

abbrev rdQ3 (Q : S2048x256.Idx → Elt F .bf16) : FVec F S512x256 .bf16 :=
  (qM.access (Rect.unit (s := S2048x256) ![1536, 0] S512x256.size inb_S2048x256_S512x256_1536_0)).read (Elt F) Q
abbrev rdL3 (f : S2048x1.Idx → Elt F .f32) : FVec F S512x1 .f32 :=
  (lM.access (Rect.unit (s := S2048x1) ![1536, 0] S512x1.size inb_S2048x1_S512x1_1536_0)).read (Elt F) f
abbrev rdA3 (f : S2048x256.Idx → Elt F .f32) : FVec F S512x256 .f32 :=
  (aM.access (Rect.unit (s := S2048x256) ![1536, 0] S512x256.size inb_S2048x256_S512x256_1536_0)).read (Elt F) f
/-- The row sums after the rows from 1536 have taken a block's keys in. -/
abbrev lT3 (K : FVec F S2048x256 .bf16) (Q : S2048x256.Idx → Elt F .bf16) (f : S2048x1.Idx → Elt F .f32) : S2048x1.Idx → Elt F .f32 :=
  (lM.access (Rect.unit (s := S2048x1) ![1536, 0] S512x1.size inb_S2048x1_S512x1_1536_0)).write (Elt F) f
    (k0_pay4 K (rdQ3 Q) (rdL3 f)) Finset.univ
/-- The weighted sums after the rows from 1536 have taken a block in. -/
abbrev aT3 (K V : FVec F S2048x256 .bf16) (Q : S2048x256.Idx → Elt F .bf16) (f : S2048x256.Idx → Elt F .f32) : S2048x256.Idx → Elt F .f32 :=
  (aM.access (Rect.unit (s := S2048x256) ![1536, 0] S512x256.size inb_S2048x256_S512x256_1536_0)).write (Elt F) f
    (k0_pay5 K V (rdQ3 Q) (rdA3 f)) Finset.univ

/-- The row sums after a whole block. -/
def lAll (K : FVec F S2048x256 .bf16) (Q : S2048x256.Idx → Elt F .bf16) (f : S2048x1.Idx → Elt F .f32) : S2048x1.Idx → Elt F .f32 :=
  lT3 K Q (lT2 K Q (lT1 K Q (lT0 K Q f)))
/-- The weighted sums after a whole block. -/
def aAll (K V : FVec F S2048x256 .bf16) (Q : S2048x256.Idx → Elt F .bf16) (f : S2048x256.Idx → Elt F .f32) : S2048x256.Idx → Elt F .f32 :=
  aT3 K V Q (aT2 K V Q (aT1 K V Q (aT0 K V Q f)))

/-! ## The printed tile expressions are the same few functions -/

section pays
variable (K V : FVec F S2048x256 .bf16) (q : FVec F S512x256 .bf16) (l : FVec F S512x1 .f32) (a : FVec F S512x256 .f32)
  (x y : FVec F S1x1x2048x256 .bf16)

theorem pay10_eq : k0_pay10 x q l = k0_pay4 (k0_pay7 x) q l := rfl
theorem pay11_eq : k0_pay11 x y q a = k0_pay5 (k0_pay7 x) (k0_pay8 y) q a := rfl
theorem pay12_eq : k0_pay12 x q = k0_pay3 (k0_pay7 x) q := rfl
theorem pay13_eq : k0_pay13 (k0_pay3 K q) l = k0_pay4 K q l := rfl
theorem pay14_eq : k0_pay14 V (k0_pay3 K q) a = k0_pay5 K V q a := rfl
theorem pay16_eq : k0_pay16 K q l = k0_pay4 K q l := rfl
theorem pay17_eq : k0_pay17 K V q a = k0_pay5 K V q a := rfl
theorem pay18_eq : k0_pay18 x = k0_pay7 x := rfl
theorem pay19_eq : k0_pay19 x = k0_pay8 x := rfl
theorem pay21_eq : k0_pay21 K q (constant S512x2048 .f32 0x00000000#32) l = k0_pay4 K q l := rfl
theorem pay22_eq : k0_pay22 K V q (constant S512x2048 .f32 0x00000000#32) a = k0_pay5 K V q a := rfl
theorem pay24_eq : k0_pay24 K q l = k0_pay4 K q l := rfl
theorem pay26_eq : k0_pay26 (k0_pay25 K V q a) = k0_pay5 K V q a := rfl
theorem pay28_eq : k0_pay28 K q l = k0_pay4 K q l := rfl
theorem pay29_eq : k0_pay29 K V q a = k0_pay5 K V q a := rfl
theorem pay30_eq : k0_pay30 K q = k0_pay3 K q := rfl
theorem pay1_eq : k0_pay1 (k0_pay31 K q l) = k0_pay4 K q l := rfl
theorem pay2_eq : k0_pay2 V (k0_pay3 K q) a = k0_pay5 K V q a := rfl
theorem pay38_eq : k0_pay38 x = k0_pay7 x := rfl
theorem pay39_eq : k0_pay39 x = k0_pay8 x := rfl
theorem pay41_eq : k0_pay41 x q l = k0_pay4 (k0_pay7 x) q l := rfl
theorem pay42_eq : k0_pay42 x y q a = k0_pay5 (k0_pay7 x) (k0_pay8 y) q a := rfl
theorem pay43_eq : k0_pay43 x q = k0_pay3 (k0_pay7 x) q := rfl
theorem pay44_eq : k0_pay44 x q l = k0_pay31 (k0_pay7 x) q l := rfl
theorem pay45_eq : k0_pay45 (k0_pay31 K q l) = k0_pay4 K q l := rfl
theorem pay46_eq : k0_pay46 V (k0_pay3 K q) a = k0_pay5 K V q a := rfl
theorem pay48_eq : k0_pay48 K q l = k0_pay4 K q l := rfl
theorem pay49_eq : k0_pay49 K V q a = k0_pay5 K V q a := rfl
theorem pay52_eq : k0_pay52 (k0_pay50 K q) l = k0_pay4 K q l := rfl
theorem pay53_eq : k0_pay53 V (k0_pay50 K q) a = k0_pay5 K V q a := rfl

end pays

/-! ## The parts of the kernel that compute -/

abbrev P1 (t : Fin k0_t1_loop.trips) (v186 : BitVec 32) (h4 : k0_cond4 t = 1#1) := k0_part1 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 t v186 h4
abbrev P2 (v306 v309 : FVec F S2048x256 .bf16) (v333 : FVec F S512x2048 .f32) (v334 : Vec F S512x1 .f32) := k0_part2 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 v306 v309 v333 v334
abbrev P3 (d0 : Dev nD) (v18 v29 : BitVec 32) (t : Fin k0_t1_loop.trips) := k0_part3 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 d0 v18 v29 1#32 1#32 t
abbrev P4 (v209 v212 : FVec F S2048x256 .bf16) (v213 : Vec F S512x256 .bf16) (v : FVec F S512x2048 .f32) := k0_part4 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 v209 v212 v213 v
abbrev P5 (v209 v212 : FVec F S2048x256 .bf16) (v247 : FVec F S512x256 .f32) := k0_part5 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 v209 v212 v247
abbrev P6  := k0_part6 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10
abbrev P7 (d0 : Dev nD) (v18 v29 : BitVec 32) (v30 : Sems sig S_) (w : BitVec 32) := k0_part7 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 d0 v18 v29 v30 w
abbrev P8 (d0 : Dev nD) (v18 v29 : BitVec 32) (v59 : FVec F S2048x1 .f32) := k0_part8 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 d0 v18 v29 v59
abbrev P9 (v84 : Vec F S1x1x2048x256 .bf16) := k0_part9 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 v84
abbrev P10 (v85 v87 : FVec F S2048x256 .bf16) (v111 : FVec F S512x2048 .f32) (v115 : FVec F S512x1 .f32) := k0_part10 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 v85 v87 v111 v115
abbrev P11 (v87 : FVec F S2048x256 .bf16) (v148 : FVec F S512x2048 .f32) := k0_part11 (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 v87 v148

theorem wp_part4 {c : Dev nD} {K V : FVec F S2048x256 .bf16} {Q : S2048x256.Idx → Elt F .bf16} {A : S2048x256.Idx → Elt F .f32} {L : S2048x1.Idx → Elt F .f32}
    {β : Type} {Φ : β → sProp 𝕄} {kk : _ → Prog (TpuEff nD τ sig (Elt F) Λ₀ .tc) β} :
    iprop(qpt c Q ∗ apt c A ∗ lpt c L)
      ⊢ iprop((qpt c Q ∗ apt c (aT0 K V Q A) ∗ lpt c (lT1 K Q (lT0 K Q L)) -∗ WP c (kk (k0_pay25 K V (rdQ1 Q) (rdA1 (aT0 K V Q A)))) Φ) -∗ WP c (P4 K V (rdQ0 Q) (constant S512x2048 .f32 0x00000000#32) >>= kk) Φ) := by
  unfold P4
  simp only [k0_part4_eq_skeleton]
  unfold k0_part4_skel
  simp only [Prog.lift, Prog.bind_op, Prog.bind_ret, Prog.pure_eq_ret, pay21_eq, pay22_eq, pay24_eq]
  iintro ⟨Hq, Ha, Hl⟩ Hk
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply ld_l $$ Hl; iintro Hl
  iapply ld_l $$ Hl; iintro Hl
  iapply st_l $$ Hl; iintro Hl
  iapply ld_a $$ Ha; iintro Ha
  iapply Hk
  isplitl [Hq]; · iexact Hq
  isplitl [Ha]; · iexact Ha
  iexact Hl

theorem wp_part5 {c : Dev nD} {K V : FVec F S2048x256 .bf16} {Q : S2048x256.Idx → Elt F .bf16} {A : S2048x256.Idx → Elt F .f32} {L : S2048x1.Idx → Elt F .f32}
    {β : Type} {Φ : β → sProp 𝕄} {kk : _ → Prog (TpuEff nD τ sig (Elt F) Λ₀ .tc) β} :
    iprop(qpt c Q ∗ apt c A ∗ lpt c L)
      ⊢ iprop((qpt c Q ∗ apt c (aT2 K V Q (aT1 K V Q A)) ∗ lpt c (lT2 K Q L) -∗ WP c (kk ⟨k0_pay3 K (rdQ3 Q), k0_pay31 K (rdQ3 Q) (rdL3 (lT2 K Q L)), rdL3 (lT2 K Q L)⟩) Φ) -∗ WP c (P5 K V (k0_pay25 K V (rdQ1 Q) (rdA1 A)) >>= kk) Φ) := by
  unfold P5
  simp only [k0_part5_eq_skeleton]
  unfold k0_part5_skel
  simp only [Prog.lift, Prog.bind_op, Prog.bind_ret, Prog.pure_eq_ret, pay26_eq, pay28_eq, pay29_eq, pay30_eq]
  iintro ⟨Hq, Ha, Hl⟩ Hk
  iapply ld_a $$ Ha; iintro Ha
  iapply st_a $$ Ha; iintro Ha
  iapply ld_q $$ Hq; iintro Hq
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply ld_l $$ Hl; iintro Hl
  iapply ld_l $$ Hl; iintro Hl
  iapply Hk
  isplitl [Hq]; · iexact Hq
  isplitl [Ha]; · iexact Ha
  iexact Hl

theorem wp_part2 {c : Dev nD} {K V : FVec F S2048x256 .bf16} {Q : S2048x256.Idx → Elt F .bf16} {A : S2048x256.Idx → Elt F .f32} {L : S2048x1.Idx → Elt F .f32}
    {β : Type} {Φ : β → sProp 𝕄} {kk : _ → Prog (TpuEff nD τ sig (Elt F) Λ₀ .tc) β} :
    iprop(qpt c Q ∗ apt c A ∗ lpt c L)
      ⊢ iprop((qpt c Q ∗ apt c (aT2 K V Q (aT1 K V Q A)) ∗ lpt c (lT2 K Q (lT1 K Q L)) -∗ WP c (kk (rdQ3 Q)) Φ) -∗ WP c (P2 K V (k0_pay3 K (rdQ1 Q)) (rdL1 L) >>= kk) Φ) := by
  unfold P2
  simp only [k0_part2_eq_skeleton]
  unfold k0_part2_skel
  simp only [Prog.lift, Prog.bind_op, Prog.bind_ret, Prog.pure_eq_ret, pay13_eq, pay14_eq, pay16_eq, pay17_eq]
  iintro ⟨Hq, Ha, Hl⟩ Hk
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply Hk
  isplitl [Hq]; · iexact Hq
  isplitl [Ha]; · iexact Ha
  iexact Hl

theorem wp_part10 {c : Dev nD} {K V : FVec F S2048x256 .bf16} {Q : S2048x256.Idx → Elt F .bf16} {A : S2048x256.Idx → Elt F .f32} {L : S2048x1.Idx → Elt F .f32}
    {β : Type} {Φ : β → sProp 𝕄} {kk : _ → Prog (TpuEff nD τ sig (Elt F) Λ₀ .tc) β} :
    iprop(qpt c Q ∗ apt c A ∗ lpt c L)
      ⊢ iprop((qpt c Q ∗ apt c (aT2 K V Q (aT1 K V Q A)) ∗ lpt c (lT2 K Q (lT1 K Q L)) -∗ WP c (kk (k0_pay50 K (rdQ3 Q))) Φ) -∗ WP c (P10 K V (k0_pay3 K (rdQ1 Q)) (k0_pay31 K (rdQ1 Q) (rdL1 L)) >>= kk) Φ) := by
  unfold P10
  simp only [k0_part10_eq_skeleton]
  unfold k0_part10_skel
  simp only [Prog.lift, Prog.bind_op, Prog.bind_ret, Prog.pure_eq_ret, pay45_eq, pay46_eq, pay48_eq, pay49_eq]
  iintro ⟨Hq, Ha, Hl⟩ Hk
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply Hk
  isplitl [Hq]; · iexact Hq
  isplitl [Ha]; · iexact Ha
  iexact Hl

theorem wp_part9 {c : Dev nD} {X : Blk F} {sh : PosShare TreeShare} {Q : S2048x256.Idx → Elt F .bf16} {A : S2048x256.Idx → Elt F .f32} {L : S2048x1.Idx → Elt F .f32}
    {β : Type} {Φ : β → sProp 𝕄} {kk : _ → Prog (TpuEff nD τ sig (Elt F) Λ₀ .tc) β} :
    iprop(owns (c : Thread nD τ) (slotM (bufM true) (sr 0)) sh X ∗ qpt c Q ∗ apt c A ∗ lpt c L)
      ⊢ iprop((owns (c : Thread nD τ) (slotM (bufM true) (sr 0)) sh X ∗ qpt c Q ∗ apt c (aT0 (keys X) (vals X) Q A) ∗ lpt c (lT0 (keys X) Q L) -∗ WP c (kk ⟨keys X, vals X, k0_pay3 (keys X) (rdQ1 Q), k0_pay31 (keys X) (rdQ1 Q) (rdL1 (lT0 (keys X) Q L))⟩) Φ) -∗ WP c (P9 (half 0 X) >>= kk) Φ) := by
  unfold P9
  simp only [k0_part9_eq_skeleton]
  unfold k0_part9_skel
  simp only [Prog.lift, Prog.bind_op, Prog.bind_ret, Prog.pure_eq_ret, pay38_eq, pay39_eq, pay41_eq, pay42_eq, pay43_eq, pay44_eq]
  iintro ⟨HS, Hq, Ha, Hl⟩ Hk
  iapply (step_load (c := c) (d := true) (s := sr 0) (X := X) rfl 1 rfl) $$ HS; iintro HS
  iapply ld_q $$ Hq; iintro Hq
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply ld_l $$ Hl; iintro Hl
  iapply Hk
  isplitl [HS]; · iexact HS
  isplitl [Hq]; · iexact Hq
  isplitl [Ha]; · iexact Ha
  iexact Hl

theorem wp_part1 {c : Dev nD} {X : Blk F} {sh : PosShare TreeShare} (t : Fin k0_t1_loop.trips) (v : BitVec 32) (h4 : k0_cond4 t = 1#1) {Q : S2048x256.Idx → Elt F .bf16} {A : S2048x256.Idx → Elt F .f32} {L : S2048x1.Idx → Elt F .f32}
    {β : Type} {Φ : β → sProp 𝕄} {kk : _ → Prog (TpuEff nD τ sig (Elt F) Λ₀ .tc) β} :
    iprop(owns (c : Thread nD τ) (slotM (bufM false) (sr (t.val + 1))) sh X ∗ qpt c Q ∗ apt c A ∗ lpt c L)
      ⊢ iprop((owns (c : Thread nD τ) (slotM (bufM false) (sr (t.val + 1))) sh X ∗ qpt c Q ∗ apt c (aT0 (keys X) (vals X) Q A) ∗ lpt c (lT0 (keys X) Q L) -∗ WP c (kk ⟨keys X, vals X, k0_pay3 (keys X) (rdQ1 Q), rdL1 (lT0 (keys X) Q L)⟩) Φ) -∗ WP c (P1 t v h4 >>= kk) Φ) := by
  unfold P1
  simp only [k0_part1_eq_skeleton]
  unfold k0_part1_skel
  simp only [Prog.lift, Prog.bind_op, Prog.bind_ret, Prog.pure_eq_ret, pay10_eq, pay11_eq, pay12_eq]
  iintro ⟨HS, Hq, Ha, Hl⟩ Hk
  iapply (step_load (c := c) (d := false) (s := (sr (t.val + 1))) (X := X) rfl 0 (k0_off17_eq t)) $$ HS; iintro HS
  iapply (step_load (c := c) (d := false) (s := (sr (t.val + 1))) (X := X) rfl 1 (k0_off18_eq t)) $$ HS; iintro HS
  iapply ld_q $$ Hq; iintro Hq
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply ld_q $$ Hq; iintro Hq
  iapply ld_l $$ Hl; iintro Hl
  iapply Hk
  isplitl [HS]; · iexact HS
  isplitl [Hq]; · iexact Hq
  isplitl [Ha]; · iexact Ha
  iexact Hl

end Cert.KernelIdeal.RingProof

end
-- ==== Proof.Phases.lean ====
/-
# The phases of one round, for one direction

In round `r` a block arrives, is forwarded while the computation reads it, and its slot is given up once both are done.
Past a direction's last hop the same statements hold with nothing moving.
-/
module

public import proofs.«01_k».proof.Proof.Tiles
public import Idealize.ShloMosaic.Lib.MemrefSat

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

theorem bind_branch {α β : Type} {P : Prop} [Decidable P] {T : P → Prog (TpuEff nD τ sig (Elt F) Λ₀ .tc) α}
    {E : ¬P → Prog (TpuEff nD τ sig (Elt F) Λ₀ .tc) α} {kk : α → Prog (TpuEff nD τ sig (Elt F) Λ₀ .tc) β} :
    (dite P T E >>= kk) = dite P (fun h => T h >>= kk) (fun h => E h >>= kk) := by
  by_cases h : P
  · rw [dif_pos h, dif_pos h]
  · rw [dif_neg h, dif_neg h]

/-- A branch with nothing on its other side, before a program of its own. -/
theorem wp_branch {c : Dev nD} {β : Type} {Φ : β → sProp 𝕄} {P : Prop} [Decidable P] {T : P → Prog (TpuEff nD τ sig (Elt F) Λ₀ .tc) β}
    {E : Prog (TpuEff nD τ sig (Elt F) Λ₀ .tc) β} (G S S' : sProp 𝕄) [BI.Persistent G]
    (hT : ∀ h : P, iprop(G ∗ S) ⊢ iprop((S' -∗ WP c E Φ) -∗ WP c (T h) Φ)) (hE : ¬P → iprop(G ∗ S) ⊢ S') :
    iprop(G ∗ S) ⊢ iprop((S' -∗ WP c E Φ) -∗ WP c (dite P T fun _ => E) Φ) := by
  by_cases h : P
  · rw [dif_pos h]; exact hT h
  · rw [dif_neg h]
    iintro H Hk
    iapply Hk
    iapply (hE h)
    iexact H

theorem wp_done {c : Dev nD} {α : Type} {a : α} {Φ : α → sProp 𝕄} : Φ a ⊢ WP c (.ret a) Φ := by
  unfold WP; rw [wp_ret]; iintro H; imodintro; iexact H

variable (X0 : Dev nD → Blk F) (κ : Dev nD × Kind → ℕ) (ιs : Key → ℕ)

/-- The block that arrived in round `r`, held whole. -/
def arr (d : Bool) (c : Dev nD) (r : ℕ) : sProp 𝕄 :=
  if r ≤ hops d then owns (c : Thread nD τ) (slotM (bufM d) (sr r)) fullShare (blk X0 d c r) else iprop(emp)
/-- What is left of it for the computation while it is forwarded. -/
def shr (d : Bool) (r : ℕ) : PosShare TreeShare := if r < hops d then fullShare.left else fullShare
def mid (d : Bool) (c : Dev nD) (r : ℕ) : sProp 𝕄 :=
  if r ≤ hops d then owns (c : Thread nD τ) (slotM (bufM d) (sr r)) (shr d r) (blk X0 d c r) else iprop(emp)
/-- The transfer under way in round `r`. -/
def pend (d : Bool) (c : Dev nD) (r : ℕ) : sProp 𝕄 := if r < hops d then sendCred d c r else iprop(emp)
/-- The slots nobody will write any more, before round `r`. -/
def kept (d : Bool) (c : Dev nD) (r : ℕ) : sProp 𝕄 :=
  iprop((if hops d ≤ r then free (F := F) c d (sr (hops d - 1)) else iprop(emp)) ∗ (if hops d < r then free c d (sr (hops d)) else iprop(emp)))

variable {X0} {κ} {ιs} {d : Bool} {c : Dev nD} {r : ℕ}

theorem arr_of (h : r ≤ hops d) : arr X0 d c r = owns (c : Thread nD τ) (slotM (bufM d) (sr r)) fullShare (blk X0 d c r) := if_pos h
theorem mid_of (h : r ≤ hops d) : mid X0 d c r = owns (c : Thread nD τ) (slotM (bufM d) (sr r)) (shr d r) (blk X0 d c r) := if_pos h

theorem arr_idle (h : hops d < r) : (iprop(emp) : sProp 𝕄) = arr X0 d c r := (if_neg (by omega)).symm

theorem mid_idle (h : hops d ≤ r) : arr X0 d c r ⊢ iprop(mid X0 d c r ∗ pend (F := F) d c r) := by
  unfold arr mid pend shr
  rw [if_neg (by omega : ¬ r < hops d), if_neg (by omega : ¬ r < hops d)]
  iintro H
  isplitl; · iexact H
  iempintro

theorem arr_back (h : hops d ≤ r) : iprop(mid X0 d c r ∗ pend (F := F) d c r) ⊢ arr X0 d c r := by
  unfold arr mid pend shr
  rw [if_neg (by omega : ¬ r < hops d), if_neg (by omega : ¬ r < hops d)]
  iintro ⟨H, -⟩
  iexact H

theorem kept_idle (h : hops d ≤ r + 1) : iprop(arr X0 d c r ∗ kept d c r) ⊢ kept (F := F) d c (r + 1) := by
  unfold arr kept free
  rcases Nat.lt_trichotomy r (hops d) with h' | h' | h'
  · rw [if_pos h'.le, if_neg (by omega), if_neg (by omega), if_pos (by omega), if_neg (by omega)]
    rw [show hops d - 1 = r by omega]
    iintro ⟨H, -⟩
    isplitl; · (iexists _; iexact H)
    iempintro
  · rw [if_pos h'.le, if_pos (by omega), if_neg (by omega), if_pos (by omega), if_pos (by omega), ← h']
    iintro ⟨H, H', -⟩
    isplitl [H']; · iexact H'
    iexists _; iexact H
  · rw [if_neg (by omega), if_pos (by omega), if_pos (by omega), if_pos (by omega), if_pos (by omega)]
    iintro ⟨-, H⟩
    iexact H

theorem kept_early (h : r < hops d) : (iprop(emp) : sProp 𝕄) ⊢ kept (F := F) d c r := by
  unfold kept
  rw [if_neg (by omega), if_neg (by omega)]
  iintro -
  isplitl <;> iempintro

/-- The block is forwarded: a credit is awaited and a transfer issued. -/
theorem ph_forward {n : ℕ} (hh : n + 1 < hops d) {dev : Dev nD} (hn : dev = nxt d c)
    {sm : Sem sig} (hsm : sm = (kA d).sem) {k' : ℤ} (hk' : k' = ((1 : ℕ) : ℤ))
    {src dst : Memref sig .tc .vmem S2x2048x256 .bf16} (hs : src = slotM (bufM d) (sr (n + 1))) (hd : dst = slotM (bufM d) (sr (n + 1 + 1)))
    {sS sR : DmaSem sig} (hsS : sS = pick (sA d) (sr (n + 1))) (hsR : sR = pick (rA d) (sr (n + 1 + 1)))
    {hsc : dst.view.ref.isScScratch = false} {hsrc : src.view.WordExact} {hdst : dst.view.WordExact}
    {hsem : DmaTarget.Typed .vmem (.dma sR) (.remote (Dev.tc dev : Thread nD τ) dst (.dma sS) hsc)}
    {O O' : CellTallies nD τ sig ℕ} (hO' : O' = O + tallyAt (cell (nxt d c) (.recv d (sr (n + 1 + 1)))) (n + 1 + 1) (N d)) (hO : Above O' (n + 2))
    {α : Type} {Q : α → sProp 𝕄} {k : PUnit → Prog (TpuEff nD τ sig (Elt F) Λ₀ .tc) α} :
    iprop(env X0 κ ιs ∗ stK d c n ∗ stS d c (n + 1) ∗ stW d c (n + 1) ∗ arr X0 d c (n + 1) ∗ ow c O')
      ⊢ iprop(((stK d c (n + 1) ∗ stS d c (n + 2) ∗ stW d c (n + 1) ∗ (mid X0 d c (n + 1) ∗ pend d c (n + 1)) ∗ ow c O) -∗ WP c (k ⟨⟩) Q)
        -∗ WP c (.op (.semWait sm k') fun _ => .op (.enqueueDma src (.remote (Dev.tc dev : Thread nD τ) dst (.dma sS) hsc) (.dma sR) hsrc hdst hsem) k) Q) := by
  rw [arr_of hh.le, mid_of hh.le]
  unfold pend shr
  rw [if_pos hh, if_pos hh]
  have hR : stW (F := F) d c (n + 1) ⊢ iprop(reached ER (cell c (.send d (sr (n + 1)))) ((n + 1) / 2) ∗ stW d c (n + 1)) := by
    unfold stW; rw [min_eq_left hh.le, sendPos_eq]; unfold pos
    iintro ⟨⟨H, #Hr⟩, H'⟩
    isplitr; · iexact Hr
    isplitr [H']
    · isplitl [H]; · iexact H
      iexact Hr
    iexact H'
  have hS : stS (F := F) d c (n + 1) = iprop(sendTok d c (n + 1) ∗ stS d c (n + 2)) := by
    unfold stS; rw [Idealize.SL.BI.bigSep_Ico_succ_bot hh]
  rw [hS]
  iintro ⟨#He, HK, ⟨Ht, HS⟩, HW, HA, HO⟩ Hk
  ihave HW := hR $$ HW
  icases HW with ⟨#Hr, HW⟩
  iapply (step_waitCredit X0 κ ιs hh hsm hk' hO) $$ [HK HO]
  · isplitr; · iexact He
    isplitl [HK] <;> iassumption
  iintro ⟨#Hf, HK, HO⟩
  rw [hO']
  ihave HA := (owns_halves (c : Thread nD τ) (slotM (bufM d) (sr (n + 1))) fullShare (blk X0 d c (n + 1))).1 $$ HA
  icases HA with ⟨Hl, Hright⟩
  iapply (step_send X0 κ ιs hh hn hs hd hsS hsR) $$ [Hright Ht HO]
  · isplitr; · iexact He
    isplitl [Hright]; · iexact Hright
    isplitr; · iexact Hf
    isplitl [Ht]; · iexact Ht
    isplitr; · iexact Hr
    iexact HO
  iintro ⟨Hc, HO⟩
  iapply Hk
  isplitl [HK]; · iexact HK
  isplitl [HS]; · iexact HS
  isplitl [HW]; · iexact HW
  isplitl [Hl Hc]; · isplitl [Hl] <;> iassumption
  iexact HO

/-- The forwarding has completed: the block is held whole again. -/
theorem ph_sent (hh : r < hops d) {src dst : Memref sig .tc .vmem S2x2048x256 .bf16}
    {sS : DmaSem sig} {s : Fin 2} (hd : dst = slotM (bufM d) s) (hsS : sS = pick (sA d) (sr r))
    {hsrc : src.view.WordExact} {hdst : dst.view.WordExact} {O : CellTallies nD τ sig ℕ} (hO : Above O 0)
    {α : Type} {Q : α → sProp 𝕄} {k : PUnit → Prog (TpuEff nD τ sig (Elt F) Λ₀ .tc) α} :
    iprop(env X0 κ ιs ∗ (mid X0 d c r ∗ pend d c r) ∗ stW d c r ∗ ow c O)
      ⊢ iprop(((arr X0 d c r ∗ stW d c (r + 1) ∗ ow c O) -∗ WP c (k ⟨⟩) Q) -∗ WP c (.op (.waitDma2 sS src dst hsrc hdst) k) Q) := by
  rw [arr_of hh.le, mid_of hh.le]
  unfold pend shr
  rw [if_pos hh, if_pos hh]
  iintro ⟨#He, ⟨Hl, Hc⟩, HW, HO⟩ Hk
  iapply (step_waitSend X0 κ ιs hh hd hsS hO) $$ [Hc HW HO]
  · isplitr; · iexact He
    isplitl [Hc]; · iexact Hc
    isplitl [HW] <;> iassumption
  iintro ⟨Hr, HW, HO⟩
  iapply Hk
  isplitl [Hl Hr]
  · iapply (owns_halves (c : Thread nD τ) (slotM (bufM d) (sr r)) fullShare (blk X0 d c r)).2
    isplitl [Hl] <;> iassumption
  isplitl [HW] <;> iassumption

/-- The slot is given up. -/
theorem ph_credit (hh : r + 1 < hops d) {dev : Dev nD} (hn : dev = prv d c) {sm : Sem sig} (hsm : sm = (kA d).sem)
    {k' : ℤ} (hk' : k' = ((1 : ℕ) : ℤ)) {O O' : CellTallies nD τ sig ℕ} (hO' : O' = O + tallyAt (cell (prv d c) (.credit d)) (r + 1) 1)
    {α : Type} {Q : α → sProp 𝕄} {k : PUnit → Prog (TpuEff nD τ sig (Elt F) Λ₀ .tc) α} :
    iprop(env X0 κ ιs ∗ stG d c (r + 1) ∗ stR d c r ∗ arr X0 d c r ∗ kept d c r ∗ ow c O')
      ⊢ iprop(((stG d c (r + 2) ∗ stR d c r ∗ kept d c (r + 1) ∗ ow c O) -∗ WP c (k ⟨⟩) Q)
        -∗ WP c (.op (.semSignal (Dev.tc dev : Thread nD τ) sm k') k) Q) := by
  have hr : r ≤ hops d := by omega
  rw [arr_of hr, hO']
  iintro ⟨#He, HG, HR, HA, -, HO⟩ Hk
  ihave HR := (stR_reached hr) $$ HR
  icases HR with ⟨#Hr, HR⟩
  iapply (step_giveCredit X0 κ ιs (d := d) (c := c) (j := r + 1) (by omega) hh hn hsm hk') $$ [HG HA HO]
  · isplitr; · iexact He
    isplitl [HG]; · iexact HG
    rw [show sr (r + 1 + 1) = sr r from sr_add_two r]
    isplitl [HA]; · (unfold free; iexists _; iexact HA)
    isplitr; · iexact Hr
    iexact HO
  iintro ⟨HG, HO⟩
  iapply Hk
  isplitl [HG]; · iexact HG
  isplitl [HR]; · iexact HR
  isplitr [HO]; · (iapply (kept_early hh); iempintro)
  iexact HO

/-! ## What is owed past a direction's end -/

section Owe
variable {a₁ a₂ b₁ b₂ : ℕ}

theorem owe_idle_st (h : hops true ≤ a₁) : owe c a₁ a₂ b₁ b₂ = owe c (a₁ + 1) a₂ b₁ b₂ := by
  unfold owe; rw [oweS_done c h, oweS_done c (Nat.le_succ_of_le h)]
theorem owe_idle_sf (h : hops false ≤ a₂) : owe c a₁ a₂ b₁ b₂ = owe c a₁ (a₂ + 1) b₁ b₂ := by
  unfold owe; rw [oweS_done c h, oweS_done c (Nat.le_succ_of_le h)]
theorem owe_idle_ct (h : hops true ≤ b₁) : owe c a₁ a₂ b₁ b₂ = owe c a₁ a₂ (b₁ + 1) b₂ := by
  unfold owe; rw [oweC_done c h, oweC_done c (Nat.le_succ_of_le h)]
theorem owe_idle_cf (h : hops false ≤ b₂) : owe c a₁ a₂ b₁ b₂ = owe c a₁ a₂ b₁ (b₂ + 1) := by
  unfold owe; rw [oweC_done c h, oweC_done c (Nat.le_succ_of_le h)]

end Owe

end Cert.KernelIdeal.RingProof

end
-- ==== Proof.Round.lean ====
/-
# One round of the kernel's loop
-/
module

public import proofs.«01_k».proof.Proof.Phases

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## What the computation has reached -/

/-- The weighted sums and the row sums. -/
abbrev Acc (F : FTy → Type) [FloatOps F] : Type := (S2048x256.Idx → Elt F .f32) × (S2048x1.Idx → Elt F .f32)

/-- One more block taken in. -/
def step1 (Q : S2048x256.Idx → Elt F .bf16) (X : Blk F) (p : Acc F) : Acc F := (aAll (keys X) (vals X) Q p.1, lAll (keys X) Q p.2)

variable (X0 : Dev nD → Blk F) (Q : S2048x256.Idx → Elt F .bf16)

/-- The sums of device `c` after round `r`, from those after its own block. -/
def comp (c : Dev nD) (p0 : Acc F) : ℕ → Acc F
  | 0 => p0
  | r + 1 =>
    if r + 1 ≤ hops false then step1 Q (blk X0 false c (r + 1)) (step1 Q (blk X0 true c (r + 1)) (comp c p0 r))
    else step1 Q (blk X0 true c (r + 1)) (comp c p0 r)

/-- The buffers of the computation, holding certain sums. -/
def sums (c : Dev nD) (p : Acc F) : sProp 𝕄 := iprop(qpt c Q ∗ apt c p.1 ∗ lpt c p.2)

/-! ## The state of one direction before, within and at the end of a round -/

def dHead (d : Bool) (c : Dev nD) (n : ℕ) : sProp 𝕄 :=
  iprop(stR (F := F) d c n ∗ stS d c (n + 1) ∗ stW d c (n + 1) ∗ stK d c n ∗ stG d c (n + 2) ∗ kept d c (n + 1))
def dMid (d : Bool) (c : Dev nD) (n : ℕ) : sProp 𝕄 :=
  iprop(stR (F := F) d c (n + 1) ∗ stS d c (n + 2) ∗ stW d c (n + 1) ∗ stK d c (n + 1) ∗ stG d c (n + 2) ∗ kept d c (n + 1)
    ∗ mid X0 d c (n + 1) ∗ pend d c (n + 1))

theorem flip_eq (n : ℕ) : 1 - (n + 1) % 2 = (sr (n + 1 + 1)).val := by simp only [sr]; omega
theorem flip4 (n : ℕ) : (![1 - (n + 1) % 2, 0, 0, 0] : Fin 4 → ℕ) = ![(sr (n + 1 + 1)).val, 0, 0, 0] := by rw [flip_eq]
theorem flip1 (n : ℕ) : (![1 - (n + 1) % 2] : Fin 1 → ℕ) = ![(sr (n + 1 + 1)).val] := by rw [flip_eq]

variable {X0} {Q} {κ : Dev nD × Kind → ℕ} {ιs : Key → ℕ}

theorem lt_trips (t : Fin k0_t1_loop.trips) : t.val < 8 := trips_eq ▸ t.isLt

/-- Arrivals and forwarding of both directions, and the first loads of the computation. -/
theorem wp_part3 {c : Dev nD} {v18 v29 : BitVec 32} (t : Fin k0_t1_loop.trips) {A : S2048x256.Idx → Elt F .f32} {L : S2048x1.Idx → Elt F .f32}
    {β : Type} {Φ : β → sProp 𝕄} {kk : _ → Prog (TpuEff nD τ sig (Elt F) Λ₀ .tc) β} :
    iprop(env X0 κ ιs ∗ dHead true c t.val ∗ dHead false c t.val ∗ ow c (owe c (t.val + 1) (t.val + 1) (t.val + 2) (t.val + 2)) ∗ qpt c Q)
      ⊢ iprop((dMid X0 true c t.val ∗ dMid X0 false c t.val ∗ ow c (owe c (t.val + 2) (t.val + 2) (t.val + 2) (t.val + 2)) ∗ qpt c Q
          -∗ WP c (kk ⟨Scf.iv 1#32 1#32 t, Scalar.remsi (Scf.iv 1#32 1#32 t) 2#32, keys (blk X0 true c (t.val + 1)), vals (blk X0 true c (t.val + 1)),
            rdQ0 Q, constant S512x2048 .f32 0x00000000#32⟩) Φ)
        -∗ WP c (P3 c v18 v29 t >>= kk) Φ) := by
  unfold P3
  simp only [k0_part3_eq_skeleton]
  unfold k0_part3_skel
  simp only [semWaitWord, Prog.lift, Prog.bind_op, Prog.bind_ret, Prog.pure_eq_ret, pay18_eq, pay19_eq, bind_branch]
  have ht := lt_trips t
  generalize hn : t.val = n at *
  unfold dHead dMid
  iintro ⟨#He, ⟨HR, HS, HW, HK, HG, Hke⟩, ⟨HR', HS', HW', HK', HG', Hke'⟩, HO, Hq⟩ Hk
  iapply (step_waitRecv X0 κ ιs (d := true) (c := c) (h := n) (O := owe c (n + 1) (n + 1) (n + 2) (n + 2)) ht (slot_eq rM (sr (n + 1)) (by rw [k0_off2_eq t, hn]; rfl) _)
    (pick_eq (rA true) (sr (n + 1)) (by rw [k0_off1_eq t, hn]; rfl) _) (above_owe c (by omega) (by omega) (by omega) (by omega))) $$ [HR HO]
  · isplitr; · iexact He
    isplitl [HR]; · iexact HR
    iexact HO
  iintro ⟨HA, HR, HO⟩
  ihave HA := (Entails.of_eq (arr_of (X0 := X0) (d := true) (c := c) (r := n + 1) ht).symm) $$ HA
  -- forwarding, first direction
  iapply (wp_branch (c := c) (env X0 κ ιs) (iprop(stK true c n ∗ stS true c (n + 1) ∗ stW true c (n + 1) ∗ arr X0 true c (n + 1)
      ∗ ow c (owe c (n + 1) (n + 1) (n + 2) (n + 2)))) (iprop(stK true c (n + 1) ∗ stS true c (n + 2) ∗ stW true c (n + 1) ∗ (mid X0 true c (n + 1) ∗ pend true c (n + 1))
    ∗ ow c (owe c (n + 2) (n + 1) (n + 2) (n + 2)))) (fun h1 => ?_) (fun h1 => ?_)) $$ [HA HK HS HW HO]
  · iintro ⟨#He, HK, HS, HW, HA, HO⟩ Hk
    have hh : n + 1 < hops true := hn ▸ (cond1_iff t).1 h1
    iapply (ph_forward (X0 := X0) (κ := κ) (ιs := ιs) (d := true) (c := c) (n := n) (O' := owe c (n + 1) (n + 1) (n + 2) (n + 2)) hh (dev7_eq c t h1) rfl rfl (slot_eq rM (sr (n + 1)) (by rw [k0_off7_eq t, hn]; rfl) _)
      (slot_eq rM (sr (n + 1 + 1)) (by rw [k0_off6_eq t, hn, flip4]) _) (pick_eq (sA true) (sr (n + 1)) (by rw [k0_off4_eq t, hn]; rfl) _)
      (pick_eq (rA true) (sr (n + 1 + 1)) (by rw [k0_off5_eq t, hn, flip1]) _) (owe_send_t c hh)
      (above_owe c (by omega) (by omega) (by omega) (by omega))) $$ [HA HK HS HW HO]
    · isplitr; · iexact He
      isplitl [HK]; · iexact HK
      isplitl [HS]; · iexact HS
      isplitl [HW]; · iexact HW
      isplitl [HA] <;> iassumption
    iexact Hk
  · iintro ⟨#He, HK, HS, HW, HA, HO⟩
    have hh : hops true ≤ n + 1 := Nat.le_of_not_lt fun h' => h1 ((cond1_iff t).2 (by rw [hn]; exact h'))
    rw [← stK_idle (d := true) (n := n) hh, ← stS_idle (d := true) (n := n + 1) hh, ← owe_idle_st (a₁ := n + 1) hh]
    isplitl [HK]; · iexact HK
    isplitl [HS]; · iexact HS
    isplitl [HW]; · iexact HW
    isplitl [HA]; · (iapply (mid_idle hh); iexact HA)
    iexact HO
  · isplitr; · iexact He
    isplitl [HK]; · iexact HK
    isplitl [HS]; · iexact HS
    isplitl [HW]; · iexact HW
    isplitl [HA]; · iexact HA
    iexact HO
  iintro ⟨HK, HS, HW, Hmid, HO⟩
  -- arrival, second direction
  iapply (wp_branch (c := c) (env X0 κ ιs) (iprop(stR false c n ∗ ow c (owe c (n + 2) (n + 1) (n + 2) (n + 2)))) (iprop(arr X0 false c (n + 1) ∗ stR false c (n + 1) ∗ ow c (owe c (n + 2) (n + 1) (n + 2) (n + 2)))) (fun h2 => ?_) (fun h2 => ?_)) $$ [HR' HO]
  · iintro ⟨#He, HR', HO⟩ Hk
    have hh : n < hops false := hn ▸ (cond2_iff t).1 h2
    rw [arr_of (X0 := X0) (d := false) (c := c) (r := n + 1) hh]
    iapply (step_waitRecv X0 κ ιs (d := false) (c := c) (h := n) (O := owe c (n + 2) (n + 1) (n + 2) (n + 2)) hh (slot_eq gM (sr (n + 1)) (by rw [k0_off9_eq t, hn]; rfl) _)
      (pick_eq (rA false) (sr (n + 1)) (by rw [k0_off8_eq t, hn]; rfl) _) (above_owe c (by omega) (by omega) (by omega) (by omega))) $$ [HR' HO]
    · isplitr; · iexact He
      isplitl [HR']; · iexact HR'
      iexact HO
    iexact Hk
  · iintro ⟨#He, HR', HO⟩
    have hh : hops false ≤ n := Nat.le_of_not_lt fun h' => h2 ((cond2_iff t).2 (by rw [hn]; exact h'))
    rw [← stR_idle (d := false) (n := n) hh, ← arr_idle (X0 := X0) (d := false) (c := c) (r := n + 1) (by omega)]
    isplitr; · iempintro
    isplitl [HR']; · iexact HR'
    iexact HO
  · isplitr; · iexact He
    isplitl [HR']; · iexact HR'
    iexact HO
  iintro ⟨HA', HR', HO⟩
  -- forwarding, second direction
  iapply (wp_branch (c := c) (env X0 κ ιs) (iprop(stK false c n ∗ stS false c (n + 1) ∗ stW false c (n + 1) ∗ arr X0 false c (n + 1)
      ∗ ow c (owe c (n + 2) (n + 1) (n + 2) (n + 2)))) (iprop(stK false c (n + 1) ∗ stS false c (n + 2) ∗ stW false c (n + 1) ∗ (mid X0 false c (n + 1) ∗ pend false c (n + 1))
    ∗ ow c (owe c (n + 2) (n + 2) (n + 2) (n + 2)))) (fun h3 => ?_) (fun h3 => ?_)) $$ [HA' HK' HS' HW' HO]
  · iintro ⟨#He, HK', HS', HW', HA', HO⟩ Hk
    have hh : n + 1 < hops false := hn ▸ (cond3_iff t).1 h3
    iapply (ph_forward (X0 := X0) (κ := κ) (ιs := ιs) (d := false) (c := c) (n := n) (O' := owe c (n + 2) (n + 1) (n + 2) (n + 2)) hh (dev8_eq c t h3) rfl rfl (slot_eq gM (sr (n + 1)) (by rw [k0_off14_eq t, hn]; rfl) _)
      (slot_eq gM (sr (n + 1 + 1)) (by rw [k0_off13_eq t, hn, flip4]) _) (pick_eq (sA false) (sr (n + 1)) (by rw [k0_off11_eq t, hn]; rfl) _)
      (pick_eq (rA false) (sr (n + 1 + 1)) (by rw [k0_off12_eq t, hn, flip1]) _) (owe_send_f c hh)
      (above_owe c (by omega) (by omega) (by omega) (by omega))) $$ [HA' HK' HS' HW' HO]
    · isplitr; · iexact He
      isplitl [HK']; · iexact HK'
      isplitl [HS']; · iexact HS'
      isplitl [HW']; · iexact HW'
      isplitl [HA'] <;> iassumption
    iexact Hk
  · iintro ⟨#He, HK', HS', HW', HA', HO⟩
    have hh : hops false ≤ n + 1 := Nat.le_of_not_lt fun h' => h3 ((cond3_iff t).2 (by rw [hn]; exact h'))
    rw [← stK_idle (d := false) (n := n) hh, ← stS_idle (d := false) (n := n + 1) hh, ← owe_idle_sf (a₂ := n + 1) hh]
    isplitl [HK']; · iexact HK'
    isplitl [HS']; · iexact HS'
    isplitl [HW']; · iexact HW'
    isplitl [HA']; · (iapply (mid_idle hh); iexact HA')
    iexact HO
  · isplitr; · iexact He
    isplitl [HK']; · iexact HK'
    isplitl [HS']; · iexact HS'
    isplitl [HW']; · iexact HW'
    isplitl [HA']; · iexact HA'
    iexact HO
  iintro ⟨HK', HS', HW', Hmid', HO⟩
  icases Hmid with ⟨Hm, Hp⟩
  ihave Hm := (Entails.of_eq (mid_of (X0 := X0) (d := true) (c := c) (r := n + 1) ht)) $$ Hm
  iapply (step_load (c := c) (d := true) (s := sr (n + 1)) (X := blk X0 true c (n + 1)) rfl 0 (by rw [k0_off15_eq t, hn]; rfl)) $$ Hm; iintro Hm
  iapply (step_load (c := c) (d := true) (s := sr (n + 1)) (X := blk X0 true c (n + 1)) rfl 1 (by rw [k0_off16_eq t, hn]; rfl)) $$ Hm; iintro Hm
  iapply ld_q $$ Hq; iintro Hq
  iapply Hk
  isplitl [HR HS HW HK HG Hke Hm Hp]
  · isplitl [HR]; · iexact HR
    isplitl [HS]; · iexact HS
    isplitl [HW]; · iexact HW
    isplitl [HK]; · iexact HK
    isplitl [HG]; · iexact HG
    isplitl [Hke]; · iexact Hke
    isplitl [Hm]; · (iapply (Entails.of_eq (mid_of (X0 := X0) (d := true) (c := c) (r := n + 1) ht).symm); iexact Hm)
    iexact Hp
  isplitl [HR' HS' HW' HK' HG' Hke' Hmid']
  · isplitl [HR']; · iexact HR'
    isplitl [HS']; · iexact HS'
    isplitl [HW']; · iexact HW'
    isplitl [HK']; · iexact HK'
    isplitl [HG']; · iexact HG'
    isplitl [Hke'] <;> iassumption
  isplitl [HO] <;> iassumption

/-! ## One round -/

/-- The loop's state before round `n + 1`. -/
def inv (X0 : Dev nD → Blk F) (Q : S2048x256.Idx → Elt F .bf16) (c : Dev nD) (p0 : Acc F) (n : ℕ) : sProp 𝕄 :=
  iprop(dHead true c n ∗ dHead false c n ∗ ow c (owe c (n + 1) (n + 1) (n + 2) (n + 2)) ∗ sums Q c (comp X0 Q c p0 n))

abbrev trip (c : Dev nD) (v18 v29 : BitVec 32) := k0_t1_body (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10 c v18 v29

theorem wp_trip {c : Dev nD} {v18 v29 : BitVec 32} (t : Fin k0_t1_loop.trips) {p0 : Acc F} (a : Unit) :
    iprop(env X0 κ ιs ∗ inv X0 Q c p0 t.val) ⊢ WP c (trip c v18 v29 t a) (fun _ => iprop(env X0 κ ιs ∗ inv X0 Q c p0 (t.val + 1))) := by
  have ht := lt_trips t
  unfold trip k0_t1_body inv sums
  simp only [semSignalWord, Prog.lift, Prog.bind_op, Prog.bind_ret, Prog.pure_eq_ret, bind_branch]
  iintro ⟨#He, Hd, Hd', HO, Hq, Ha, Hl⟩
  iapply (wp_part3 (X0 := X0) (κ := κ) (ιs := ιs) (Q := Q) (c := c) t (A := (comp X0 Q c p0 t.val).1) (L := (comp X0 Q c p0 t.val).2)) $$ [Hd Hd' HO Hq]
  · isplitr; · iexact He
    isplitl [Hd]; · iexact Hd
    isplitl [Hd']; · iexact Hd'
    isplitl [HO]; · iexact HO
    iexact Hq
  unfold dMid dHead
  iintro ⟨⟨HR, HS, HW, HK, HG, Hke, Hm, Hp⟩, ⟨HR', HS', HW', HK', HG', Hke', Hm', Hp'⟩, HO, Hq⟩
  dsimp only
  iapply (wp_part4 (c := c) (K := keys (blk X0 true c (t.val + 1))) (V := vals (blk X0 true c (t.val + 1))) (Q := Q)
    (A := (comp X0 Q c p0 t.val).1) (L := (comp X0 Q c p0 t.val).2)) $$ [Hq Ha Hl]
  · isplitl [Hq]; · iexact Hq
    isplitl [Ha] <;> iassumption
  iintro ⟨Hq, Ha, Hl⟩
  iapply (wp_part5 (c := c) (K := keys (blk X0 true c (t.val + 1))) (V := vals (blk X0 true c (t.val + 1))) (Q := Q)) $$ [Hq Ha Hl]
  · isplitl [Hq]; · iexact Hq
    isplitl [Ha] <;> iassumption
  iintro ⟨Hq, Ha, Hl⟩
  simp only [pay1_eq, pay2_eq]
  iapply st_l $$ Hl; iintro Hl
  iapply ld_a $$ Ha; iintro Ha
  iapply ld_a $$ Ha; iintro Ha
  iapply st_a $$ Ha; iintro Ha
  -- the second block
  iapply (wp_branch (c := c) (env X0 κ ιs) (iprop(mid X0 false c (t.val + 1) ∗ sums Q c (step1 Q (blk X0 true c (t.val + 1)) (comp X0 Q c p0 t.val))))
    (iprop(mid X0 false c (t.val + 1) ∗ sums Q c (comp X0 Q c p0 (t.val + 1)))) (fun h => ?_) (fun h => ?_)) $$ [Hm' Hq Ha Hl]
  · have hh : t.val + 1 ≤ hops false := (cond4_iff t).1 h
    rw [mid_of (X0 := X0) (d := false) (c := c) (r := t.val + 1) hh]
    rw [show comp X0 Q c p0 (t.val + 1) = step1 Q (blk X0 false c (t.val + 1)) (step1 Q (blk X0 true c (t.val + 1)) (comp X0 Q c p0 t.val)) from if_pos hh]
    unfold sums
    iintro ⟨-, Hm, Hq, Ha, Hl⟩ Hk
    iapply (wp_part1 (c := c) (X := blk X0 false c (t.val + 1)) t _ h (Q := Q) (A := (step1 Q (blk X0 true c (t.val + 1)) (comp X0 Q c p0 t.val)).1)
      (L := (step1 Q (blk X0 true c (t.val + 1)) (comp X0 Q c p0 t.val)).2)) $$ [Hm Hq Ha Hl]
    · isplitl [Hm]; · iexact Hm
      isplitl [Hq]; · iexact Hq
      isplitl [Ha] <;> iassumption
    iintro ⟨Hm, Hq, Ha, Hl⟩
    dsimp only
    iapply (wp_part2 (c := c) (K := keys (blk X0 false c (t.val + 1))) (V := vals (blk X0 false c (t.val + 1))) (Q := Q)) $$ [Hq Ha Hl]
    · isplitl [Hq]; · iexact Hq
      isplitl [Ha] <;> iassumption
    iintro ⟨Hq, Ha, Hl⟩
    iapply ld_l $$ Hl; iintro Hl
    iapply ld_l $$ Hl; iintro Hl
    iapply st_l $$ Hl; iintro Hl
    iapply ld_a $$ Ha; iintro Ha
    iapply ld_a $$ Ha; iintro Ha
    iapply st_a $$ Ha; iintro Ha
    iapply Hk
    isplitl [Hm]; · iexact Hm
    isplitl [Hq]; · iexact Hq
    isplitl [Ha]; · iexact Ha
    iexact Hl
  · have hh : ¬ t.val + 1 ≤ hops false := fun h' => h ((cond4_iff t).2 h')
    rw [show comp X0 Q c p0 (t.val + 1) = step1 Q (blk X0 true c (t.val + 1)) (comp X0 Q c p0 t.val) from if_neg hh]
    iintro ⟨-, H⟩
    iexact H
  · isplitr; · iexact He
    isplitl [Hm']; · iexact Hm'
    unfold sums
    isplitl [Hq]; · iexact Hq
    isplitl [Ha]; · iexact Ha
    iexact Hl
  iintro ⟨Hm', Hs⟩

  iapply (wp_branch (c := c) (env X0 κ ιs) (iprop((mid X0 true c (t.val + 1) ∗ pend true c (t.val + 1)) ∗ stW true c (t.val + 1) ∗ ow c (owe c (t.val + 2) (t.val + 2) (t.val + 2) (t.val + 2))))
    (iprop(arr X0 true c (t.val + 1) ∗ stW true c (t.val + 2) ∗ ow c (owe c (t.val + 2) (t.val + 2) (t.val + 2) (t.val + 2)))) (fun h => ?_) (fun h => ?_)) $$ [Hm Hp HW HO]
  · have hh : t.val + 1 < hops true := (cond5_iff t).1 h
    iintro ⟨#He, H⟩ Hk
    iapply (ph_sent (X0 := X0) (κ := κ) (ιs := ιs) (d := true) (c := c) (r := t.val + 1) (O := owe c (t.val + 2) (t.val + 2) (t.val + 2) (t.val + 2)) hh
      (slot_eq rM (sr (t.val + 1)) (k0_off20_eq t) _) (pick_eq (sA true) (sr (t.val + 1)) (k0_off19_eq t) _)
      (above_owe c (by omega) (by omega) (by omega) (by omega))) $$ [H]
    · isplitr; · iexact He
      iexact H
    iexact Hk
  · iintro ⟨#He, HM, HW, HO⟩
    have hh : hops true ≤ t.val + 1 := Nat.le_of_not_lt fun h' => h ((cond5_iff t).2 h')
    rw [← stW_idle (d := true) (n := t.val + 1) hh]
    isplitl [HM]; · (iapply (arr_back hh); iexact HM)
    isplitl [HW]; · iexact HW
    iexact HO
  · isplitr; · iexact He
    isplitl [Hm Hp]; · isplitl [Hm] <;> iassumption
    isplitl [HW]; · iexact HW
    iexact HO
  iintro ⟨HA, HW, HO⟩
  iapply (wp_branch (c := c) (env X0 κ ιs) (iprop(stG true c (t.val + 2) ∗ stR true c (t.val + 1) ∗ arr X0 true c (t.val + 1) ∗ kept true c (t.val + 1) ∗ ow c (owe c (t.val + 2) (t.val + 2) (t.val + 2) (t.val + 2))))
    (iprop(stG true c (t.val + 3) ∗ stR true c (t.val + 1) ∗ kept true c (t.val + 2) ∗ ow c (owe c (t.val + 2) (t.val + 2) (t.val + 3) (t.val + 2)))) (fun h => ?_) (fun h => ?_)) $$ [HG HR HA Hke HO]
  · have hh : t.val + 1 + 1 < hops true := (by have := (cond6_iff t).1 h; show t.val + 1 + 1 < 8; omega)
    iintro ⟨#He, H⟩ Hk
    iapply (ph_credit (X0 := X0) (κ := κ) (ιs := ιs) (d := true) (c := c) (r := t.val + 1) (O := owe c (t.val + 2) (t.val + 2) (t.val + 3) (t.val + 2)) (O' := owe c (t.val + 2) (t.val + 2) (t.val + 2) (t.val + 2)) hh (dev9_eq c t h) rfl rfl
      (owe_credit_t c hh)) $$ [H]
    · isplitr; · iexact He
      iexact H
    iexact Hk
  · iintro ⟨#He, HG, HR, HA, HK, HO⟩
    have hh : hops true ≤ t.val + 1 + 1 := Nat.succ_le_succ (Nat.le_of_not_lt fun h' => h ((cond6_iff t).2 h'))
    rw [← stG_idle (d := true) (n := t.val + 2) hh, ← owe_idle_ct (b₁ := (t.val + 2)) hh]
    isplitl [HG]; · iexact HG
    isplitl [HR]; · iexact HR
    isplitl [HA HK]
    · iapply (kept_idle hh)
      isplitl [HA]; · iexact HA
      iexact HK
    iexact HO
  · isplitr; · iexact He
    isplitl [HG]; · iexact HG
    isplitl [HR]; · iexact HR
    isplitl [HA]; · iexact HA
    isplitl [Hke]; · iexact Hke
    iexact HO
  iintro ⟨HG, HR, Hke, HO⟩

  iapply (wp_branch (c := c) (env X0 κ ιs) (iprop((mid X0 false c (t.val + 1) ∗ pend false c (t.val + 1)) ∗ stW false c (t.val + 1) ∗ ow c (owe c (t.val + 2) (t.val + 2) (t.val + 3) (t.val + 2))))
    (iprop(arr X0 false c (t.val + 1) ∗ stW false c (t.val + 2) ∗ ow c (owe c (t.val + 2) (t.val + 2) (t.val + 3) (t.val + 2)))) (fun h => ?_) (fun h => ?_)) $$ [Hm' Hp' HW' HO]
  · have hh : t.val + 1 < hops false := (cond7_iff t).1 h
    iintro ⟨#He, H⟩ Hk
    iapply (ph_sent (X0 := X0) (κ := κ) (ιs := ιs) (d := false) (c := c) (r := t.val + 1) (O := owe c (t.val + 2) (t.val + 2) (t.val + 3) (t.val + 2)) hh
      (slot_eq gM (sr (t.val + 1)) (k0_off23_eq t) _) (pick_eq (sA false) (sr (t.val + 1)) (k0_off22_eq t) _)
      (above_owe c (by omega) (by omega) (by omega) (by omega))) $$ [H]
    · isplitr; · iexact He
      iexact H
    iexact Hk
  · iintro ⟨#He, HM, HW, HO⟩
    have hh : hops false ≤ t.val + 1 := Nat.le_of_not_lt fun h' => h ((cond7_iff t).2 h')
    rw [← stW_idle (d := false) (n := t.val + 1) hh]
    isplitl [HM]; · (iapply (arr_back hh); iexact HM)
    isplitl [HW]; · iexact HW
    iexact HO
  · isplitr; · iexact He
    isplitl [Hm' Hp']; · isplitl [Hm'] <;> iassumption
    isplitl [HW']; · iexact HW'
    iexact HO
  iintro ⟨HA', HW', HO⟩
  iapply (wp_branch (c := c) (env X0 κ ιs) (iprop(stG false c (t.val + 2) ∗ stR false c (t.val + 1) ∗ arr X0 false c (t.val + 1) ∗ kept false c (t.val + 1) ∗ ow c (owe c (t.val + 2) (t.val + 2) (t.val + 3) (t.val + 2))))
    (iprop(stG false c (t.val + 3) ∗ stR false c (t.val + 1) ∗ kept false c (t.val + 2) ∗ ow c (owe c (t.val + 2) (t.val + 2) (t.val + 3) (t.val + 3)))) (fun h => ?_) (fun h => ?_)) $$ [HG' HR' HA' Hke' HO]
  · have hh : t.val + 1 + 1 < hops false := (by have := (cond8_iff t).1 h; show t.val + 1 + 1 < 7; omega)
    iintro ⟨#He, H⟩ Hk
    iapply (ph_credit (X0 := X0) (κ := κ) (ιs := ιs) (d := false) (c := c) (r := t.val + 1) (O := owe c (t.val + 2) (t.val + 2) (t.val + 3) (t.val + 3)) (O' := owe c (t.val + 2) (t.val + 2) (t.val + 3) (t.val + 2)) hh (dev10_eq c t h) rfl rfl
      (owe_credit_f c hh)) $$ [H]
    · isplitr; · iexact He
      iexact H
    iexact Hk
  · iintro ⟨#He, HG, HR, HA, HK, HO⟩
    have hh : hops false ≤ t.val + 1 + 1 := Nat.succ_le_succ (Nat.le_of_not_lt fun h' => h ((cond8_iff t).2 h'))
    rw [← stG_idle (d := false) (n := t.val + 2) hh, ← owe_idle_cf (b₂ := (t.val + 2)) hh]
    isplitl [HG]; · iexact HG
    isplitl [HR]; · iexact HR
    isplitl [HA HK]
    · iapply (kept_idle hh)
      isplitl [HA]; · iexact HA
      iexact HK
    iexact HO
  · isplitr; · iexact He
    isplitl [HG']; · iexact HG'
    isplitl [HR']; · iexact HR'
    isplitl [HA']; · iexact HA'
    isplitl [Hke']; · iexact Hke'
    iexact HO
  iintro ⟨HG', HR', Hke', HO⟩

  iapply wp_done
  isplitr; · iexact He
  isplitl [HR HS HW HK HG Hke]
  · isplitl [HR]; · iexact HR
    isplitl [HS]; · iexact HS
    isplitl [HW]; · iexact HW
    isplitl [HK]; · iexact HK
    isplitl [HG]; · iexact HG
    iexact Hke
  isplitl [HR' HS' HW' HK' HG' Hke']
  · isplitl [HR']; · iexact HR'
    isplitl [HS']; · iexact HS'
    isplitl [HW']; · iexact HW'
    isplitl [HK']; · iexact HK'
    isplitl [HG']; · iexact HG'
    iexact Hke'
  isplitl [HO]; · iexact HO
  unfold sums
  iexact Hs

end Cert.KernelIdeal.RingProof

end
-- ==== Proof.Body.lean ====
/-
# A device's whole program: the barrier, its own block, the rounds, the result
-/
module

public import proofs.«01_k».proof.Proof.Round

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Buffers read and written whole -/

/-- The query block of the call. -/
abbrev kqpt (c : Dev nD) (f : Buf (Elt F) ((c : Thread nD τ).loc cc0_stg0_0)) : sProp 𝕄 := ((c : Thread nD τ).loc cc0_stg0_0) ↦{fullShare} f
/-- The key block of the call. -/
abbrev kkpt (c : Dev nD) (f : Buf (Elt F) ((c : Thread nD τ).loc cc0_stg1_0)) : sProp 𝕄 := ((c : Thread nD τ).loc cc0_stg1_0) ↦{fullShare} f
/-- The value block of the call. -/
abbrev kvpt (c : Dev nD) (f : Buf (Elt F) ((c : Thread nD τ).loc cc0_stg2_0)) : sProp 𝕄 := ((c : Thread nD τ).loc cc0_stg2_0) ↦{fullShare} f
/-- The result block of the call. -/
abbrev kopt (c : Dev nD) (f : Buf (Elt F) ((c : Thread nD τ).loc cc0_stg3_0)) : sProp 𝕄 := ((c : Thread nD τ).loc cc0_stg3_0) ↦{fullShare} f

theorem zero_off : (![0, 0] : Fin 2 → ℕ) = fun _ => 0 := funext fun a => by fin_cases a <;> rfl

theorem all_kq {c : Dev nD} {inb : ∀ a, (![0, 0] : Fin 2 → ℕ) a + S2048x256.size a ≤ S2048x256.size a} {hl}
    {f : Buf (Elt F) ((c : Thread nD τ).loc cc0_stg0_0)} {α : Type} {Q : α → sProp 𝕄}
    {k : (S2048x256.Idx → Elt F .f32) → Prog (TpuEff nD τ sig (Elt F) Λ₀ .tc) α} :
    kqpt c f ⊢ iprop((kqpt c f -∗ WP c (k f) Q) -∗ WP c (.op (.load kqM (Rect.unit (s := S2048x256) ![0, 0] S2048x256.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := kqM)
    (r := (Rect.unit (s := S2048x256) ![0, 0] S2048x256.size inb)) (hl := hl) (k := k) (Q := Q) (q := fullShare) (S := Finset.univ) (f := f) (Finset.subset_univ _)
  rw [show (kqM.access (Rect.unit (s := S2048x256) ![0, 0] S2048x256.size inb)).read (Elt F) f = f from Memref.readAt_unit_zero (Elt F) cc0_stg0_0 zero_off inb f] at h
  exact h

theorem all_kk {c : Dev nD} {inb : ∀ a, (![0, 0] : Fin 2 → ℕ) a + S2048x256.size a ≤ S2048x256.size a} {hl}
    {f : Buf (Elt F) ((c : Thread nD τ).loc cc0_stg1_0)} {α : Type} {Q : α → sProp 𝕄}
    {k : (S2048x256.Idx → Elt F .f32) → Prog (TpuEff nD τ sig (Elt F) Λ₀ .tc) α} :
    kkpt c f ⊢ iprop((kkpt c f -∗ WP c (k f) Q) -∗ WP c (.op (.load kkM (Rect.unit (s := S2048x256) ![0, 0] S2048x256.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := kkM)
    (r := (Rect.unit (s := S2048x256) ![0, 0] S2048x256.size inb)) (hl := hl) (k := k) (Q := Q) (q := fullShare) (S := Finset.univ) (f := f) (Finset.subset_univ _)
  rw [show (kkM.access (Rect.unit (s := S2048x256) ![0, 0] S2048x256.size inb)).read (Elt F) f = f from Memref.readAt_unit_zero (Elt F) cc0_stg1_0 zero_off inb f] at h
  exact h

theorem all_kv {c : Dev nD} {inb : ∀ a, (![0, 0] : Fin 2 → ℕ) a + S2048x256.size a ≤ S2048x256.size a} {hl}
    {f : Buf (Elt F) ((c : Thread nD τ).loc cc0_stg2_0)} {α : Type} {Q : α → sProp 𝕄}
    {k : (S2048x256.Idx → Elt F .f32) → Prog (TpuEff nD τ sig (Elt F) Λ₀ .tc) α} :
    kvpt c f ⊢ iprop((kvpt c f -∗ WP c (k f) Q) -∗ WP c (.op (.load kvM (Rect.unit (s := S2048x256) ![0, 0] S2048x256.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := kvM)
    (r := (Rect.unit (s := S2048x256) ![0, 0] S2048x256.size inb)) (hl := hl) (k := k) (Q := Q) (q := fullShare) (S := Finset.univ) (f := f) (Finset.subset_univ _)
  rw [show (kvM.access (Rect.unit (s := S2048x256) ![0, 0] S2048x256.size inb)).read (Elt F) f = f from Memref.readAt_unit_zero (Elt F) cc0_stg2_0 zero_off inb f] at h
  exact h

theorem all_ko {c : Dev nD} {inb : ∀ a, (![0, 0] : Fin 2 → ℕ) a + S2048x256.size a ≤ S2048x256.size a} {hl}
    {f : Buf (Elt F) ((c : Thread nD τ).loc cc0_stg3_0)} {α : Type} {Q : α → sProp 𝕄}
    {k : (S2048x256.Idx → Elt F .f32) → Prog (TpuEff nD τ sig (Elt F) Λ₀ .tc) α} :
    kopt c f ⊢ iprop((kopt c f -∗ WP c (k f) Q) -∗ WP c (.op (.load koM (Rect.unit (s := S2048x256) ![0, 0] S2048x256.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := koM)
    (r := (Rect.unit (s := S2048x256) ![0, 0] S2048x256.size inb)) (hl := hl) (k := k) (Q := Q) (q := fullShare) (S := Finset.univ) (f := f) (Finset.subset_univ _)
  rw [show (koM.access (Rect.unit (s := S2048x256) ![0, 0] S2048x256.size inb)).read (Elt F) f = f from Memref.readAt_unit_zero (Elt F) cc0_stg3_0 zero_off inb f] at h
  exact h

theorem all_q {c : Dev nD} {inb : ∀ a, (![0, 0] : Fin 2 → ℕ) a + S2048x256.size a ≤ S2048x256.size a} {hl}
    {f : Buf (Elt F) ((c : Thread nD τ).loc cc0_scratch2)} {α : Type} {Q : α → sProp 𝕄}
    {k : (S2048x256.Idx → Elt F .bf16) → Prog (TpuEff nD τ sig (Elt F) Λ₀ .tc) α} :
    qpt c f ⊢ iprop((qpt c f -∗ WP c (k f) Q) -∗ WP c (.op (.load qM (Rect.unit (s := S2048x256) ![0, 0] S2048x256.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := qM)
    (r := (Rect.unit (s := S2048x256) ![0, 0] S2048x256.size inb)) (hl := hl) (k := k) (Q := Q) (q := fullShare) (S := Finset.univ) (f := f) (Finset.subset_univ _)
  rw [show (qM.access (Rect.unit (s := S2048x256) ![0, 0] S2048x256.size inb)).read (Elt F) f = f from Memref.readAt_unit_zero (Elt F) cc0_scratch2 zero_off inb f] at h
  exact h

theorem all_a {c : Dev nD} {inb : ∀ a, (![0, 0] : Fin 2 → ℕ) a + S2048x256.size a ≤ S2048x256.size a} {hl}
    {f : Buf (Elt F) ((c : Thread nD τ).loc cc0_scratch3)} {α : Type} {Q : α → sProp 𝕄}
    {k : (S2048x256.Idx → Elt F .f32) → Prog (TpuEff nD τ sig (Elt F) Λ₀ .tc) α} :
    apt c f ⊢ iprop((apt c f -∗ WP c (k f) Q) -∗ WP c (.op (.load aM (Rect.unit (s := S2048x256) ![0, 0] S2048x256.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := aM)
    (r := (Rect.unit (s := S2048x256) ![0, 0] S2048x256.size inb)) (hl := hl) (k := k) (Q := Q) (q := fullShare) (S := Finset.univ) (f := f) (Finset.subset_univ _)
  rw [show (aM.access (Rect.unit (s := S2048x256) ![0, 0] S2048x256.size inb)).read (Elt F) f = f from Memref.readAt_unit_zero (Elt F) cc0_scratch3 zero_off inb f] at h
  exact h

theorem all_l {c : Dev nD} {inb : ∀ a, (![0, 0] : Fin 2 → ℕ) a + S2048x1.size a ≤ S2048x1.size a} {hl}
    {f : Buf (Elt F) ((c : Thread nD τ).loc cc0_scratch4)} {α : Type} {Q : α → sProp 𝕄}
    {k : (S2048x1.Idx → Elt F .f32) → Prog (TpuEff nD τ sig (Elt F) Λ₀ .tc) α} :
    lpt c f ⊢ iprop((lpt c f -∗ WP c (k f) Q) -∗ WP c (.op (.load lM (Rect.unit (s := S2048x1) ![0, 0] S2048x1.size inb).toLoadRect hl) k) Q) := by
  have h := wp_load_rect (defs := defs₀) (Γ := .nil) (Λ := Λ₀) (Val := Elt F) (Name := ℕ) (U := UU) (Lvl := ℕ) 𝒱₀ (c : Thread nD τ) none Set.univ (m := lM)
    (r := (Rect.unit (s := S2048x1) ![0, 0] S2048x1.size inb)) (hl := hl) (k := k) (Q := Q) (q := fullShare) (S := Finset.univ) (f := f) (Finset.subset_univ _)
  rw [show (lM.access (Rect.unit (s := S2048x1) ![0, 0] S2048x1.size inb)).read (Elt F) f = f from Memref.readAt_unit_zero (Elt F) cc0_scratch4 zero_off inb f] at h
  exact h

theorem put_ko {c : Dev nD} {inb : ∀ a, (![0, 0] : Fin 2 → ℕ) a + S2048x256.size a ≤ S2048x256.size a} {hx hm}
    {f : Buf (Elt F) ((c : Thread nD τ).loc cc0_stg3_0)} {w : S2048x256.Idx → Elt F .f32} {α : Type} {Q : α → sProp 𝕄}
    {k : PUnit → Prog (TpuEff nD τ sig (Elt F) Λ₀ .tc) α} :
    kopt c f ⊢ iprop((kopt c w -∗ WP c (k ⟨⟩) Q) -∗ WP c (.op (.store koM (Rect.unit (s := S2048x256) ![0, 0] S2048x256.size inb) w Finset.univ hx hm) k) Q) := by
  have h := wp_store (defs := defs₀) (Γ := .nil) (Λ := Λ₀) (Val := Elt F) (Name := ℕ) (U := UU) (Lvl := ℕ) 𝒱₀ (c : Thread nD τ) none Set.univ (m := koM)
    (r := (Rect.unit (s := S2048x256) ![0, 0] S2048x256.size inb)) (w := w) (hx := hx) (hm := hm) (k := k) (Q := Q) (S := Finset.univ) (f := f) (Mk := Finset.univ) (Finset.subset_univ _)
  rw [show (koM.access (Rect.unit (s := S2048x256) ![0, 0] S2048x256.size inb)).write (Elt F) f w Finset.univ = w from Memref.write_access_unit_zero_univ (Elt F) cc0_stg3_0 zero_off inb f w] at h
  exact h

theorem put_q {c : Dev nD} {inb : ∀ a, (![0, 0] : Fin 2 → ℕ) a + S2048x256.size a ≤ S2048x256.size a} {hx hm}
    {f : Buf (Elt F) ((c : Thread nD τ).loc cc0_scratch2)} {w : S2048x256.Idx → Elt F .bf16} {α : Type} {Q : α → sProp 𝕄}
    {k : PUnit → Prog (TpuEff nD τ sig (Elt F) Λ₀ .tc) α} :
    qpt c f ⊢ iprop((qpt c w -∗ WP c (k ⟨⟩) Q) -∗ WP c (.op (.store qM (Rect.unit (s := S2048x256) ![0, 0] S2048x256.size inb) w Finset.univ hx hm) k) Q) := by
  have h := wp_store (defs := defs₀) (Γ := .nil) (Λ := Λ₀) (Val := Elt F) (Name := ℕ) (U := UU) (Lvl := ℕ) 𝒱₀ (c : Thread nD τ) none Set.univ (m := qM)
    (r := (Rect.unit (s := S2048x256) ![0, 0] S2048x256.size inb)) (w := w) (hx := hx) (hm := hm) (k := k) (Q := Q) (S := Finset.univ) (f := f) (Mk := Finset.univ) (Finset.subset_univ _)
  rw [show (qM.access (Rect.unit (s := S2048x256) ![0, 0] S2048x256.size inb)).write (Elt F) f w Finset.univ = w from Memref.write_access_unit_zero_univ (Elt F) cc0_scratch2 zero_off inb f w] at h
  exact h

theorem put_a {c : Dev nD} {inb : ∀ a, (![0, 0] : Fin 2 → ℕ) a + S2048x256.size a ≤ S2048x256.size a} {hx hm}
    {f : Buf (Elt F) ((c : Thread nD τ).loc cc0_scratch3)} {w : S2048x256.Idx → Elt F .f32} {α : Type} {Q : α → sProp 𝕄}
    {k : PUnit → Prog (TpuEff nD τ sig (Elt F) Λ₀ .tc) α} :
    apt c f ⊢ iprop((apt c w -∗ WP c (k ⟨⟩) Q) -∗ WP c (.op (.store aM (Rect.unit (s := S2048x256) ![0, 0] S2048x256.size inb) w Finset.univ hx hm) k) Q) := by
  have h := wp_store (defs := defs₀) (Γ := .nil) (Λ := Λ₀) (Val := Elt F) (Name := ℕ) (U := UU) (Lvl := ℕ) 𝒱₀ (c : Thread nD τ) none Set.univ (m := aM)
    (r := (Rect.unit (s := S2048x256) ![0, 0] S2048x256.size inb)) (w := w) (hx := hx) (hm := hm) (k := k) (Q := Q) (S := Finset.univ) (f := f) (Mk := Finset.univ) (Finset.subset_univ _)
  rw [show (aM.access (Rect.unit (s := S2048x256) ![0, 0] S2048x256.size inb)).write (Elt F) f w Finset.univ = w from Memref.write_access_unit_zero_univ (Elt F) cc0_scratch3 zero_off inb f w] at h
  exact h

theorem put_l {c : Dev nD} {inb : ∀ a, (![0, 0] : Fin 2 → ℕ) a + S2048x1.size a ≤ S2048x1.size a} {hx hm}
    {f : Buf (Elt F) ((c : Thread nD τ).loc cc0_scratch4)} {w : S2048x1.Idx → Elt F .f32} {α : Type} {Q : α → sProp 𝕄}
    {k : PUnit → Prog (TpuEff nD τ sig (Elt F) Λ₀ .tc) α} :
    lpt c f ⊢ iprop((lpt c w -∗ WP c (k ⟨⟩) Q) -∗ WP c (.op (.store lM (Rect.unit (s := S2048x1) ![0, 0] S2048x1.size inb) w Finset.univ hx hm) k) Q) := by
  have h := wp_store (defs := defs₀) (Γ := .nil) (Λ := Λ₀) (Val := Elt F) (Name := ℕ) (U := UU) (Lvl := ℕ) 𝒱₀ (c : Thread nD τ) none Set.univ (m := lM)
    (r := (Rect.unit (s := S2048x1) ![0, 0] S2048x1.size inb)) (w := w) (hx := hx) (hm := hm) (k := k) (Q := Q) (S := Finset.univ) (f := f) (Mk := Finset.univ) (Finset.subset_univ _)
  rw [show (lM.access (Rect.unit (s := S2048x1) ![0, 0] S2048x1.size inb)).write (Elt F) f w Finset.univ = w from Memref.write_access_unit_zero_univ (Elt F) cc0_scratch4 zero_off inb f w] at h
  exact h

/-! ## What a device starts from and ends with -/

/-- The own ghost state of one direction at launch. -/
def dStart (d : Bool) (c : Dev nD) : sProp 𝕄 :=
  iprop(readPos (F := F) d c 0 ∗ dutyTok ER (cell (prv d c) .bar) 0 (bi d) ∗ stR d c 0 ∗ stS d c 0 ∗ stW d c 0 ∗ stK d c 0
    ∗ bigSep (Finset.Ico 1 (hops d)) fun j => dutyTok ER (cell (prv d c) (.credit d)) 0 j)
/-- The barrier semaphore's. -/
def bStart (c : Dev nD) : sProp 𝕄 := iprop(cred (tallyAt (cell c .bar) 0 2) ∗ atPos (ER (F := F)) (cell c .bar) 0 ∅ 0)

/-- The semaphores of one direction at zero. -/
def semsD (d : Bool) (c : Dev nD) : sProp 𝕄 :=
  iprop((semVal (cell c (.send d (sr (hops d)))) 0 : sProp 𝕄) ∗ semVal (cell c (.send d (sr (hops d + 1)))) 0
    ∗ semVal (cell c (.recv d (sr (hops d)))) 0 ∗ semVal (cell c (.recv d (sr (hops d + 1)))) 0 ∗ semVal (cell c (.credit d)) 0)

/-- One direction at the end. -/
def dEnd (d : Bool) (c : Dev nD) : sProp 𝕄 :=
  iprop(semsD (F := F) d c ∗ free c d (sr (hops d - 1)) ∗ free c d (sr (hops d)))

variable (X0 : Dev nD → Blk F) (κ : Dev nD × Kind → ℕ) (ιs : Key → ℕ)

theorem stG_start (d : Bool) (c : Dev nD) :
    iprop(readPos (F := F) d c 1 ∗ bigSep (Finset.Ico 1 (hops d)) fun j => dutyTok ER (cell (prv d c) (.credit d)) 0 j) ⊢ stG d c 1 := by
  unfold stG facts
  rw [min_eq_left (by have := hops_ge d; omega), show Finset.Icc 1 (1 - 1) = ∅ from rfl, bigSep_empty]
  iintro ⟨H, H'⟩
  isplitl [H]; · iexact H
  isplitr; · iempintro
  iexact H'

theorem close_pos (c : Dev nD) (k : Kind) (R : ℕ) (hR : ∀ r ≥ R, kduties k r = ∅) :
    iprop(env X0 κ ιs ∗ pos (cell c k) R) ⊢ |={Set.univ}=> (semVal (cell c k) 0 : sProp 𝕄) := by
  unfold pos
  iintro ⟨#He, H, -⟩
  iapply (close X0 κ ιs c k R hR)
  isplitr; · iexact He
  iexact H

/-- A direction whose transfers are all over. -/
theorem dHead_end (d : Bool) (c : Dev nD) :
    iprop(env X0 κ ιs ∗ dHead d c 8) ⊢ |={Set.univ}=> dEnd (F := F) d c := by
  have h8 := hops_le d
  have h7 := hops_ge d
  unfold dHead stR stW stK kept dEnd semsD
  rw [min_eq_right h8, min_eq_right (Nat.le_succ_of_le h8), min_eq_right (by omega), if_pos (Nat.le_succ_of_le h8), if_pos (by omega),
    recvPos_eq d c (hops d), sendPos_eq d c (hops d)]
  unfold credPos
  rw [if_pos (by omega)]
  iintro ⟨#He, ⟨⟨Hr1, Hr0⟩, -⟩, -, ⟨Hs0, Hs1⟩, ⟨Hk, -⟩, -, Hf0, Hf1⟩
  imod (close_pos X0 κ ιs c (.send d (sr (hops d))) (hops d / 2) (fun r hr => if_neg (by simp only [sr]; omega))) $$ [Hs0] with Hs0
  · isplitr; · iexact He
    iexact Hs0
  imod (close_pos X0 κ ιs c (.send d (sr (hops d + 1))) ((hops d + 1) / 2) (fun r hr => if_neg (by simp only [sr]; omega))) $$ [Hs1] with Hs1
  · isplitr; · iexact He
    iexact Hs1
  imod (close_pos X0 κ ιs c (.recv d (sr (hops d))) ((hops d + 1) / 2) (fun r hr => if_neg (by simp only [sr]; omega))) $$ [Hr0] with Hr0
  · isplitr; · iexact He
    iexact Hr0
  imod (close_pos X0 κ ιs c (.recv d (sr (hops d + 1))) (hops d / 2) (fun r hr => if_neg (by simp only [sr]; omega))) $$ [Hr1] with Hr1
  · isplitr; · iexact He
    iexact Hr1
  imod (close X0 κ ιs c (.credit d) 1 (fun r hr => if_neg (by omega))) $$ [Hk] with Hk
  · isplitr; · iexact He
    iexact Hk
  imodintro
  isplitl [Hs0 Hs1 Hr0 Hr1 Hk]
  · isplitl [Hs0]; · iexact Hs0
    isplitl [Hs1]; · iexact Hs1
    isplitl [Hr0]; · iexact Hr0
    isplitl [Hr1]; · iexact Hr1
    iexact Hk
  isplitl [Hf0]; · iexact Hf0
  iexact Hf1

/-- A device's own block starts its way. -/
theorem ph_first {d : Bool} {c : Dev nD} {dev : Dev nD} (hn : dev = nxt d c)
    {src dst : Memref sig .tc .vmem S2x2048x256 .bf16} (hs : src = slotM (bufM d) (sr 0)) (hd : dst = slotM (bufM d) (sr 1))
    {sS sR : DmaSem sig} (hsS : sS = pick (sA d) (sr 0)) (hsR : sR = pick (rA d) (sr 1))
    {hsc : dst.view.ref.isScScratch = false} {hsrc : src.view.WordExact} {hdst : dst.view.WordExact}
    {hsem : DmaTarget.Typed .vmem (.dma sR) (.remote (Dev.tc dev : Thread nD τ) dst (.dma sS) hsc)}
    {O O' : CellTallies nD τ sig ℕ} (hO' : O' = O + tallyAt (cell (nxt d c) (.recv d (sr (0 + 1)))) (0 + 1) (N d))
    {α : Type} {Q : α → sProp 𝕄} {k : PUnit → Prog (TpuEff nD τ sig (Elt F) Λ₀ .tc) α} :
    iprop(env X0 κ ιs ∗ fact d c 0 ∗ stS d c 0 ∗ owns (c : Thread nD τ) (slotM (bufM d) (sr 0)) fullShare (X0 c) ∗ ow c O')
      ⊢ iprop(((stS d c 1 ∗ owns (c : Thread nD τ) (slotM (bufM d) (sr 0)) (shr d 0) (blk X0 d c 0) ∗ pend d c 0 ∗ ow c O) -∗ WP c (k ⟨⟩) Q)
        -∗ WP c (.op (.enqueueDma src (.remote (Dev.tc dev : Thread nD τ) dst (.dma sS) hsc) (.dma sR) hsrc hdst hsem) k) Q) := by
  have hh : 0 < hops d := by have := hops_ge d; omega
  unfold pend shr
  rw [if_pos hh, if_pos hh]
  have hS : stS (F := F) d c 0 = iprop(sendTok d c 0 ∗ stS d c 1) := by
    unfold stS; rw [Idealize.SL.BI.bigSep_Ico_succ_bot hh]
  rw [hS, hO']
  iintro ⟨#He, #Hf, ⟨Ht, HS⟩, HA, HO⟩ Hk
  ihave HA := (show owns (c : Thread nD τ) (slotM (bufM d) (sr 0)) fullShare (X0 c) ⊢ owns (c : Thread nD τ) (slotM (bufM d) (sr 0)) fullShare (blk X0 d c 0) from Entails.of_eq rfl) $$ HA
  ihave HA := (owns_halves (c : Thread nD τ) (slotM (bufM d) (sr 0)) fullShare (blk X0 d c 0)).1 $$ HA
  icases HA with ⟨Hl, Hright⟩
  iapply (step_send X0 κ ιs hh hn hs hd hsS hsR) $$ [Hright Ht HO]
  · isplitr; · iexact He
    isplitl [Hright]; · iexact Hright
    isplitr; · iexact Hf
    isplitl [Ht]; · iexact Ht
    isplitr; · (iapply (env_reached X0 κ ιs c (.send d (sr 0))); iexact He)
    iexact HO
  iintro ⟨Hc, HO⟩
  iapply Hk
  isplitl [HS]; · iexact HS
  isplitl [Hl]; · iexact Hl
  isplitl [Hc] <;> iassumption

variable {X0} {κ} {ιs} {c : Dev nD} {v18 v29 : BitVec 32} {Q : S2048x256.Idx → Elt F .bf16}

/-! ## The parts before the loop -/

theorem wp_part6 {β : Type} {Φ : β → sProp 𝕄} {kk : _ → Prog (TpuEff nD τ sig (Elt F) Λ₀ .tc) β} :
    iprop(∀ v18 v29, WP c (kk ⟨c, v18, v29, SemArray.scalar (sig.barrier 0 rfl), 1#32⟩) Φ) ⊢ WP c (P6 >>= kk) Φ := by
  unfold P6
  simp only [k0_part6_eq_skeleton]
  unfold k0_part6_skel
  simp only [Prog.lift, Prog.bind_op, Prog.bind_ret, Prog.pure_eq_ret]
  unfold WP
  rw [wp_deviceId]
  iintro H
  iapply H

theorem wp_part7 {kq kk kv : S2048x256.Idx → Elt F .f32} (hX : X0 c = k0_pay32 kk kv) {q0 : S2048x256.Idx → Elt F .bf16} {l0 : S2048x1.Idx → Elt F .f32}
    {β : Type} {Φ : β → sProp 𝕄} {K : _ → Prog (TpuEff nD τ sig (Elt F) Λ₀ .tc) β} :
    iprop(env X0 κ ιs ∗ readPos true c 0 ∗ readPos false c 0 ∗ dutyTok ER (cell (prv true c) .bar) 0 (bi true) ∗ dutyTok ER (cell (prv false c) .bar) 0 (bi false)
        ∗ free c true (sr 0) ∗ free c true (sr 1) ∗ free c false (sr 0) ∗ free c false (sr 1) ∗ bStart c ∗ ow c (O₀ c)
        ∗ kqpt c kq ∗ kkpt c kk ∗ kvpt c kv ∗ qpt c q0 ∗ lpt c l0)
      ⊢ iprop((readPos true c 1 ∗ readPos false c 1 ∗ fact true c 0 ∗ fact false c 0
          ∗ owns (c : Thread nD τ) (slotM (bufM true) (sr 0)) fullShare (X0 c) ∗ owns (c : Thread nD τ) (slotM (bufM false) (sr 0)) fullShare (X0 c)
          ∗ atPos ER (cell c .bar) 1 ∅ 0 ∗ ow c (owe c 0 0 1 1) ∗ kqpt c kq ∗ kkpt c kk ∗ kvpt c kv ∗ qpt c (k0_pay35 kq) ∗ lpt c l0
          -∗ WP c (K (k0_pay36 (F := F))) Φ)
        -∗ WP c (P7 c v18 v29 (SemArray.scalar (sig.barrier 0 rfl)) 1#32 >>= K) Φ) := by
  unfold P7
  simp only [k0_part7_eq_skeleton]
  unfold k0_part7_skel
  simp only [semSignalWord, semWaitWord, Prog.lift, Prog.bind_op, Prog.bind_ret, Prog.pure_eq_ret]
  unfold bStart O₀
  iintro ⟨#He, Hrt, Hrf, Htt, Htf, Ht0, Ht1, Hf0, Hf1, ⟨Hbc, Hbp⟩, HO, Hkq, Hkk, Hkv, Hq, Hl⟩ Hk
  iapply (step_bar X0 κ ιs (d := true) (c := c) (O := owe c 0 0 1 1 + oweB false c) (dev1_eq c) rfl rfl) $$ [Hrt Ht1 Htt HO]
  · isplitr; · iexact He
    isplitl [Hrt]; · iexact Hrt
    isplitl [Ht1]; · iexact Ht1
    isplitl [Htt]; · iexact Htt
    iexact HO
  iintro ⟨Hrt, HO⟩
  iapply (step_bar X0 κ ιs (d := false) (c := c) (O := owe c 0 0 1 1) (dev2_eq c) rfl rfl) $$ [Hrf Hf1 Htf HO]
  · isplitr; · iexact He
    isplitl [Hrf]; · iexact Hrf
    isplitl [Hf1]; · iexact Hf1
    isplitl [Htf]; · iexact Htf
    iexact HO
  iintro ⟨Hrf, HO⟩
  iapply (step_barWait X0 κ ιs (c := c) (O := owe c 0 0 1 1) rfl rfl (above_owe c (by omega) (by omega) (by omega) (by omega))) $$ [Hbc Hbp HO]
  · isplitr; · iexact He
    isplitl [Hbc]; · iexact Hbc
    isplitl [Hbp] <;> iassumption
  iintro ⟨#Hft, #Hff, Hbp, HO⟩
  iapply all_kk $$ Hkk; iintro Hkk
  iapply all_kv $$ Hkv; iintro Hkv
  iapply (step_loadSlot (d := true) (M := rM) rfl (sr 0) rfl) $$ Ht0; iintro %_ Ht0
  iapply (step_store (d := true) (M := rM) rfl (sr 0) rfl (Y := X0 c) shapeCasts_S2x2048x256_S1x2x2048x256 (by rw [hX]; rfl)) $$ Ht0; iintro Ht0
  iapply (step_loadSlot (d := false) (M := gM) rfl (sr 0) rfl) $$ Hf0; iintro %_ Hf0
  iapply (step_store (d := false) (M := gM) rfl (sr 0) rfl (Y := X0 c) shapeCasts_S2x2048x256_S1x2x2048x256 (by rw [hX]; rfl)) $$ Hf0; iintro Hf0
  iapply all_kq $$ Hkq; iintro Hkq
  iapply all_q $$ Hq; iintro Hq
  iapply put_q $$ Hq; iintro Hq
  iapply all_l $$ Hl; iintro Hl
  iapply Hk
  isplitl [Hrt]; · iexact Hrt
  isplitl [Hrf]; · iexact Hrf
  isplitr; · iexact Hft
  isplitr; · iexact Hff
  isplitl [Ht0]; · iexact Ht0
  isplitl [Hf0]; · iexact Hf0
  isplitl [Hbp]; · iexact Hbp
  isplitl [HO]; · iexact HO
  isplitl [Hkq]; · iexact Hkq
  isplitl [Hkk]; · iexact Hkk
  isplitl [Hkv]; · iexact Hkv
  isplitl [Hq]; · iexact Hq
  iexact Hl

/-- The state of one direction while its first transfer is under way. -/
def first (X0 : Dev nD → Blk F) (d : Bool) (c : Dev nD) : sProp 𝕄 :=
  iprop(stS (F := F) d c 1 ∗ owns (c : Thread nD τ) (slotM (bufM d) (sr 0)) (shr d 0) (blk X0 d c 0) ∗ pend d c 0)

theorem wp_part8 {a0 : S2048x256.Idx → Elt F .f32} {l0 w : S2048x1.Idx → Elt F .f32}
    {β : Type} {Φ : β → sProp 𝕄} {K : _ → Prog (TpuEff nD τ sig (Elt F) Λ₀ .tc) β} :
    iprop(env X0 κ ιs ∗ fact true c 0 ∗ fact false c 0 ∗ stS true c 0 ∗ stS false c 0
        ∗ owns (c : Thread nD τ) (slotM (bufM true) (sr 0)) fullShare (X0 c) ∗ owns (c : Thread nD τ) (slotM (bufM false) (sr 0)) fullShare (X0 c)
        ∗ ow c (owe c 0 0 1 1) ∗ apt c a0 ∗ lpt c l0)
      ⊢ iprop((first X0 true c ∗ first X0 false c ∗ ow c (owe c 1 1 1 1) ∗ apt c (k0_pay37 (F := F)) ∗ lpt c w
          -∗ WP c (K (half 0 (X0 c))) Φ)
        -∗ WP c (P8 c v18 v29 w >>= K) Φ) := by
  unfold P8
  simp only [k0_part8_eq_skeleton]
  unfold k0_part8_skel
  simp only [Prog.lift, Prog.bind_op, Prog.bind_ret, Prog.pure_eq_ret]
  unfold first
  iintro ⟨#He, #Hft, #Hff, HSt, HSf, Ht, Hf, HO, Ha, Hl⟩ Hk
  iapply put_l $$ Hl; iintro Hl
  iapply all_a $$ Ha; iintro Ha
  iapply put_a $$ Ha; iintro Ha
  iapply (ph_first X0 κ ιs (d := true) (c := c) (O := owe c 1 0 1 1) (O' := owe c 0 0 1 1) (dev3_eq c) (slot_eq rM (sr 0) rfl _) (slot_eq rM (sr 1) rfl _)
    (pick_eq (sA true) (sr 0) rfl _) (pick_eq (rA true) (sr 1) rfl _) (owe_send_t c (by decide))) $$ [HSt Ht HO]
  · isplitr; · iexact He
    isplitr; · iexact Hft
    isplitl [HSt]; · iexact HSt
    isplitl [Ht] <;> iassumption
  iintro ⟨HSt, Ht, Hpt, HO⟩
  iapply (ph_first X0 κ ιs (d := false) (c := c) (O := owe c 1 1 1 1) (O' := owe c 1 0 1 1) (dev4_eq c) (slot_eq gM (sr 0) rfl _) (slot_eq gM (sr 1) rfl _)
    (pick_eq (sA false) (sr 0) rfl _) (pick_eq (rA false) (sr 1) rfl _) (owe_send_f c (by decide))) $$ [HSf Hf HO]
  · isplitr; · iexact He
    isplitr; · iexact Hff
    isplitl [HSf]; · iexact HSf
    isplitl [Hf] <;> iassumption
  iintro ⟨HSf, Hf, Hpf, HO⟩
  iapply (step_load (M := rM) (c := c) (d := true) (s := sr 0) (X := blk X0 true c 0) rfl 0 rfl) $$ Ht; iintro Ht
  iapply Hk
  isplitl [HSt Ht Hpt]
  · isplitl [HSt]; · iexact HSt
    isplitl [Ht] <;> iassumption
  isplitl [HSf Hf Hpf]
  · isplitl [HSf]; · iexact HSf
    isplitl [Hf] <;> iassumption
  isplitl [HO]; · iexact HO
  isplitl [Ha]; · iexact Ha
  iexact Hl

theorem wp_part11 {A V : FVec F S2048x256 .bf16} {a0 : S2048x256.Idx → Elt F .f32} {l0 : S2048x1.Idx → Elt F .f32}
    {O : CellTallies nD τ sig ℕ} (hO : Above O 0)
    {β : Type} {Φ : β → sProp 𝕄} {K : _ → Prog (TpuEff nD τ sig (Elt F) Λ₀ .tc) β} :
    iprop(env X0 κ ιs ∗ owns (c : Thread nD τ) (slotM (bufM true) (sr 0)) (shr true 0) (blk X0 true c 0) ∗ pend true c 0 ∗ stW true c 0
        ∗ ow c O ∗ qpt c Q ∗ apt c a0 ∗ lpt c l0)
      ⊢ iprop((arr X0 true c 0 ∗ stW true c 1 ∗ ow c O ∗ qpt c Q ∗ apt c (aT3 A V Q a0) ∗ lpt c (lT3 A Q l0) -∗ WP c (K ⟨⟩) Φ)
        -∗ WP c (P11 V (k0_pay50 A (rdQ3 Q)) >>= K) Φ) := by
  unfold P11
  simp only [k0_part11_eq_skeleton]
  unfold k0_part11_skel
  simp only [Prog.lift, Prog.bind_op, Prog.bind_ret, Prog.pure_eq_ret, pay52_eq, pay53_eq]
  iintro ⟨#He, Hm, Hp, HW, HO, Hq, Ha, Hl⟩ Hk
  iapply ld_l $$ Hl; iintro Hl
  iapply ld_l $$ Hl; iintro Hl
  iapply st_l $$ Hl; iintro Hl
  iapply ld_a $$ Ha; iintro Ha
  iapply ld_a $$ Ha; iintro Ha
  iapply st_a $$ Ha; iintro Ha
  iapply (ph_sent (X0 := X0) (κ := κ) (ιs := ιs) (d := true) (c := c) (r := 0) (O := O) (by decide)
    (slot_eq rM (sr 0) rfl _) (pick_eq (sA true) (sr 0) rfl _) hO) $$ [Hm Hp HW HO]
  · isplitr; · iexact He
    isplitl [Hm Hp]
    · rw [mid_of (Nat.zero_le _)]
      isplitl [Hm] <;> iassumption
    isplitl [HW] <;> iassumption
  iintro ⟨HA, HW, HO⟩
  iapply Hk
  isplitl [HA]; · iexact HA
  isplitl [HW]; · iexact HW
  isplitl [HO]; · iexact HO
  isplitl [Hq]; · iexact Hq
  isplitl [Ha]; · iexact Ha
  iexact Hl

/-! ## The whole program -/

/-- A device's program. -/
abbrev prog : Prog (TpuEff nD τ sig (Elt F) Λ₀ .tc) PUnit := cc0_body (F := F) kqM (Memref.isWhole_whole _) kkM (Memref.isWhole_whole _) kvM (Memref.isWhole_whole _) koM (Memref.isWhole_whole _) rM (Memref.isWhole_whole _) gM (Memref.isWhole_whole _) qM (Memref.isWhole_whole _) aM (Memref.isWhole_whole _) lM (Memref.isWhole_whole _) cc0_scratch5 cc0_scratch6 cc0_scratch7 cc0_scratch8 cc0_scratch9 cc0_scratch10

/-- The sums after the own block. -/
def own0 (Q : S2048x256.Idx → Elt F .bf16) (X : Blk F) : Acc F := step1 Q X (k0_pay37 (F := F), k0_pay36 (F := F))

/-- The sums after all blocks. -/
def final (X0 : Dev nD → Blk F) (kq : S2048x256.Idx → Elt F .f32) (c : Dev nD) : Acc F :=
  comp X0 (k0_pay35 kq) c (own0 (k0_pay35 kq) (X0 c)) 8

/-- The result of device `c`. -/
def result (X0 : Dev nD → Blk F) (kq : S2048x256.Idx → Elt F .f32) (c : Dev nD) : S2048x256.Idx → Elt F .f32 :=
  k0_pay6 (final X0 kq c).1 (final X0 kq c).2

/-- What a device's program starts from. -/
def bodyPre (kq kk kv ko : S2048x256.Idx → Elt F .f32) (c : Dev nD) : sProp 𝕄 :=
  iprop(dStart true c ∗ dStart false c ∗ bStart c ∗ ow c (O₀ c)
    ∗ kqpt c kq ∗ kkpt c kk ∗ kvpt c kv ∗ kopt c ko
    ∗ free c true (sr 0) ∗ free c true (sr 1) ∗ free c false (sr 0) ∗ free c false (sr 1)
    ∗ (∃ f, qpt c f) ∗ (∃ f, apt c f) ∗ (∃ f, lpt c f))

/-- What it ends with. -/
def bodyPost (X0 : Dev nD → Blk F) (kq kk kv : S2048x256.Idx → Elt F .f32) (c : Dev nD) : sProp 𝕄 :=
  iprop(dEnd true c ∗ dEnd false c ∗ (semVal (cell c .bar) 0 : sProp 𝕄) ∗ ow c 0
    ∗ kqpt c kq ∗ kkpt c kk ∗ kvpt c kv ∗ kopt c (result X0 kq c)
    ∗ (∃ f, qpt c f) ∗ (∃ f, apt c f) ∗ (∃ f, lpt c f))

theorem owe_end : owe c 9 9 10 10 = 0 := by
  unfold owe
  rw [oweS_done c (by decide), oweS_done c (by decide), oweC_done c (by decide), oweC_done c (by decide)]
  simp only [add_zero]

theorem wp_prog {kq kk kv ko : S2048x256.Idx → Elt F .f32} (hX : X0 c = k0_pay32 kk kv) :
    iprop(env X0 κ ιs ∗ bodyPre kq kk kv ko c) ⊢ WP c (prog (F := F)) (fun _ => bodyPost X0 kq kk kv c) := by
  unfold prog
  simp only [cc0_body_eq_skeleton]
  unfold cc0_body_skel bodyPre dStart
  simp only [semSignalWord, Prog.lift, Prog.bind_op, Prog.bind_ret, Prog.pure_eq_ret]
  iintro ⟨#He, ⟨Hrt, Htt, HRt, HSt, HWt, HKt, HGt⟩, ⟨Hrf, Htf, HRf, HSf, HWf, HKf, HGf⟩, Hb, HO, Hkq, Hkk, Hkv, Hko, Ht0, Ht1, Hf0, Hf1, ⟨%q0, Hq⟩, ⟨%a0, Ha⟩, ⟨%l0, Hl⟩⟩
  iapply (wp_part6 (c := c))
  iintro %v18 %v29
  iapply (wp_part7 (X0 := X0) (κ := κ) (ιs := ιs) (c := c) hX) $$ [Hrt Hrf Htt Htf Ht0 Ht1 Hf0 Hf1 Hb HO Hkq Hkk Hkv Hq Hl]
  · isplitr; · iexact He
    isplitl [Hrt]; · iexact Hrt
    isplitl [Hrf]; · iexact Hrf
    isplitl [Htt]; · iexact Htt
    isplitl [Htf]; · iexact Htf
    isplitl [Ht0]; · iexact Ht0
    isplitl [Ht1]; · iexact Ht1
    isplitl [Hf0]; · iexact Hf0
    isplitl [Hf1]; · iexact Hf1
    isplitl [Hb]; · iexact Hb
    isplitl [HO]; · iexact HO
    isplitl [Hkq]; · iexact Hkq
    isplitl [Hkk]; · iexact Hkk
    isplitl [Hkv]; · iexact Hkv
    isplitl [Hq]; · iexact Hq
    iexact Hl
  iintro ⟨Hrt, Hrf, #Hft, #Hff, Ht0, Hf0, Hbp, HO, Hkq, Hkk, Hkv, Hq, Hl⟩
  iapply (wp_part8 (X0 := X0) (κ := κ) (ιs := ιs) (c := c)) $$ [HSt HSf Ht0 Hf0 HO Ha Hl]
  · isplitr; · iexact He
    isplitr; · iexact Hft
    isplitr; · iexact Hff
    isplitl [HSt]; · iexact HSt
    isplitl [HSf]; · iexact HSf
    isplitl [Ht0]; · iexact Ht0
    isplitl [Hf0]; · iexact Hf0
    isplitl [HO]; · iexact HO
    isplitl [Ha] <;> iassumption
  unfold first
  iintro ⟨⟨HSt, Hmt, Hpt⟩, ⟨HSf, Hmf, Hpf⟩, HO, Ha, Hl⟩
  iapply (wp_part9 (c := c) (X := X0 c)) $$ [Hmt Hq Ha Hl]
  · isplitl [Hmt]; · iexact Hmt
    isplitl [Hq]; · iexact Hq
    isplitl [Ha] <;> iassumption
  iintro ⟨Hmt, Hq, Ha, Hl⟩
  dsimp only
  iapply (wp_part10 (c := c) (K := keys (X0 c)) (V := vals (X0 c))) $$ [Hq Ha Hl]
  · isplitl [Hq]; · iexact Hq
    isplitl [Ha] <;> iassumption
  iintro ⟨Hq, Ha, Hl⟩
  iapply (wp_part11 (X0 := X0) (κ := κ) (ιs := ιs) (c := c) (A := keys (X0 c)) (V := vals (X0 c)) (O := owe c 1 1 1 1)
    (above_owe c (by omega) (by omega) (by omega) (by omega))) $$ [Hmt Hpt HWt HO Hq Ha Hl]
  · isplitr; · iexact He
    isplitl [Hmt]; · iexact Hmt
    isplitl [Hpt]; · iexact Hpt
    isplitl [HWt]; · iexact HWt
    isplitl [HO]; · iexact HO
    isplitl [Hq]; · iexact Hq
    isplitl [Ha] <;> iassumption
  iintro ⟨HAt, HWt, HO, Hq, Ha, Hl⟩
  iapply (ph_sent (X0 := X0) (κ := κ) (ιs := ιs) (d := false) (c := c) (r := 0) (O := owe c 1 1 1 1) (by decide)
    (slot_eq gM (sr 0) rfl _) (pick_eq (sA false) (sr 0) rfl _) (above_owe c (by omega) (by omega) (by omega) (by omega))) $$ [Hmf Hpf HWf HO]
  · isplitr; · iexact He
    isplitl [Hmf Hpf]
    · rw [mid_of (Nat.zero_le _)]
      isplitl [Hmf] <;> iassumption
    isplitl [HWf] <;> iassumption
  iintro ⟨HAf, HWf, HO⟩
  ihave HGt := (stG_start true c) $$ [Hrt HGt]
  · isplitl [Hrt] <;> iassumption
  ihave HGf := (stG_start false c) $$ [Hrf HGf]
  · isplitl [Hrf] <;> iassumption
  iapply (ph_credit (X0 := X0) (κ := κ) (ιs := ιs) (d := true) (c := c) (r := 0) (O := owe c 1 1 2 1) (O' := owe c 1 1 1 1) (by decide) (dev5_eq c) rfl rfl
    (owe_credit_t c (by decide))) $$ [HGt HRt HAt HO]
  · isplitr; · iexact He
    isplitl [HGt]; · iexact HGt
    isplitl [HRt]; · iexact HRt
    isplitl [HAt]; · iexact HAt
    isplitr; · (iapply (kept_early (by decide)); iempintro)
    iexact HO
  iintro ⟨HGt, HRt, Hkt, HO⟩
  iapply (ph_credit (X0 := X0) (κ := κ) (ιs := ιs) (d := false) (c := c) (r := 0) (O := owe c 1 1 2 2) (O' := owe c 1 1 2 1) (by decide) (dev6_eq c) rfl rfl
    (owe_credit_f c (by decide))) $$ [HGf HRf HAf HO]
  · isplitr; · iexact He
    isplitl [HGf]; · iexact HGf
    isplitl [HRf]; · iexact HRf
    isplitl [HAf]; · iexact HAf
    isplitr; · (iapply (kept_early (by decide)); iempintro)
    iexact HO
  iintro ⟨HGf, HRf, Hkf, HO⟩
  iapply (Scf.wp_for_bind frame (wpE (defs₀ (F := F)) 𝒱₀ (c : Thread nD τ) none) Set.univ k0_t1_loop.lb k0_t1_loop.ub k0_t1_loop.st k0_t1_ok PUnit.unit (trip c v18 v29)
    (fun n _ => iprop(env X0 κ ιs ∗ inv X0 (k0_pay35 kq) c (own0 (k0_pay35 kq) (X0 c)) n)) (fun t a => ?_))
    $$ [HRt HSt HWt HKt HGt Hkt HRf HSf HWf HKf HGf Hkf HO Hq Ha Hl]
  · iintro ⟨#He, HI⟩
    iapply (wp_trip (X0 := X0) (κ := κ) (ιs := ιs) (Q := k0_pay35 kq) (c := c) (v18 := v18) (v29 := v29) t (p0 := own0 (k0_pay35 kq) (X0 c)) a)
    isplitr; · iexact He
    iexact HI
  · isplitr; · iexact He
    unfold inv dHead sums
    isplitl [HRt HSt HWt HKt HGt Hkt]
    · isplitl [HRt]; · iexact HRt
      isplitl [HSt]; · iexact HSt
      isplitl [HWt]; · iexact HWt
      isplitl [HKt]; · iexact HKt
      isplitl [HGt]; · iexact HGt
      iexact Hkt
    isplitl [HRf HSf HWf HKf HGf Hkf]
    · isplitl [HRf]; · iexact HRf
      isplitl [HSf]; · iexact HSf
      isplitl [HWf]; · iexact HWf
      isplitl [HKf]; · iexact HKf
      isplitl [HGf]; · iexact HGf
      iexact Hkf
    isplitl [HO]; · iexact HO
    isplitl [Hq]; · iexact Hq
    isplitl [Ha]; · iexact Ha
    iexact Hl
  rw [show Scf.trips k0_t1_loop.lb k0_t1_loop.ub k0_t1_loop.st = 8 from trips_eq]
  iintro %_ ⟨-, HI⟩
  unfold inv sums
  icases HI with ⟨Hdt, Hdf, HO, Hq, Ha, Hl⟩
  iapply all_a $$ Ha; iintro Ha
  iapply all_l $$ Hl; iintro Hl
  iapply all_ko $$ Hko; iintro Hko
  iapply put_ko $$ Hko; iintro Hko
  imod (dHead_end X0 κ ιs true c) $$ [Hdt] with Hdt
  · isplitr; · iexact He
    iexact Hdt
  imod (dHead_end X0 κ ιs false c) $$ [Hdf] with Hdf
  · isplitr; · iexact He
    iexact Hdf
  imod (close X0 κ ιs c .bar 1 (fun r hr => if_neg (by omega))) $$ [Hbp] with Hbp
  · isplitr; · iexact He
    iexact Hbp
  iapply wp_done
  unfold bodyPost
  isplitl [Hdt]; · iexact Hdt
  isplitl [Hdf]; · iexact Hdf
  isplitl [Hbp]; · iexact Hbp
  isplitl [HO]; · (rw [← owe_end (c := c)]; iexact HO)
  isplitl [Hkq]; · iexact Hkq
  isplitl [Hkk]; · iexact Hkk
  isplitl [Hkv]; · iexact Hkv
  isplitl [Hko]; · iexact Hko
  isplitl [Hq]; · (iexists _; iexact Hq)
  isplitl [Ha]; · (iexists _; iexact Ha)
  iexists _; iexact Hl

end Cert.KernelIdeal.RingProof

end
-- ==== Proof.Deal.lean ====
/-
# Dealing out the ghost state

At launch every semaphore and every slot has its ghost state in one place. Here it is dealt out: each device gets the
positions of its own semaphores and slots, and the tokens of what it will pay to others.
-/
module

public import proofs.«01_k».proof.Proof.Body
public import Idealize.ShloMosaic.Lib.Pipeline.Launch
public import Idealize.ShloMosaic.Lib.Pipeline.Kit

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-! ## Credits at launch -/

/-- What the waits of device `c` need. -/
def dueS (d : Bool) (c : Dev nD) : CellTallies nD τ sig ℕ :=
  ∑ h ∈ Finset.Ico 0 (hops d), tallyAt (cell c (.recv d (sr (h + 1)))) (h + 1) (N d)
def dueC (d : Bool) (c : Dev nD) : CellTallies nD τ sig ℕ := ∑ j ∈ Finset.Ico 1 (hops d), tallyAt (cell c (.credit d)) j 1
def dueB (c : Dev nD) : CellTallies nD τ sig ℕ := tallyAt (cell c .bar) 0 2
def due (c : Dev nD) : CellTallies nD τ sig ℕ := dueS true c + dueS false c + dueC true c + dueC false c + dueB c

/-- Summed over the devices, what is owed is what is due. -/
theorem sum_owe : (∑ c, O₀ c) = ∑ c, due c := by
  have hS (d : Bool) : ∑ c, oweS d c 0 = ∑ c, dueS d c := Equiv.sum_comp (ringE d) (dueS d)
  have hC (d : Bool) : ∑ c, oweC d c 1 = ∑ c, dueC d c := Equiv.sum_comp (ringE (!d)) (dueC d)
  have hB (d : Bool) : ∑ c, oweB d c = ∑ c, (tallyAt (cell c .bar) 0 1 : CellTallies nD τ sig ℕ) :=
    Equiv.sum_comp (ringE (!d)) fun c => tallyAt (cell c .bar) 0 1
  have hB2 : ∑ c, dueB c = ∑ c, (tallyAt (cell c .bar) 0 1 : CellTallies nD τ sig ℕ) + ∑ c, tallyAt (cell c .bar) 0 1 := by
    rw [← Finset.sum_add_distrib]; exact Finset.sum_congr rfl fun c _ => (tallyAt_add _ _ 1 1).symm
  unfold O₀ owe due
  simp only [Finset.sum_add_distrib]
  rw [hS, hS, hC, hC, hB, hB, hB2]; ac_rfl

/-- A sum of tallies on one device's cells is on that device's cells. -/
theorem home_tally (c : Dev nD) (k : Kind) (i n : ℕ) (g : GSem nD τ sig) (h : (tallyAt (cell c k) i n : CellTallies nD τ sig ℕ) g ≠ 0) :
    g.1 = (c : Thread nD τ) := by
  by_contra hne
  exact h (tallyAt_ne_cell (fun e => hne (congrArg Prod.fst e)) _ _)
theorem home_add {A B : CellTallies nD τ sig ℕ} {t : Thread nD τ} (hA : ∀ g, A g ≠ 0 → g.1 = t) (hB : ∀ g, B g ≠ 0 → g.1 = t) :
    ∀ g, (A + B) g ≠ 0 → g.1 = t := fun g h => by
  by_contra hne
  refine h ?_
  rw [Pi.add_apply, not_not.mp fun h' => hne (hA g h'), not_not.mp fun h' => hne (hB g h'), add_zero]
theorem home_sum {S : Finset ℕ} {f : ℕ → CellTallies nD τ sig ℕ} {t : Thread nD τ} (h : ∀ i, ∀ g, f i g ≠ 0 → g.1 = t) :
    ∀ g, (∑ i ∈ S, f i) g ≠ 0 → g.1 = t := fun g hg => by
  by_contra hne
  refine hg ?_
  rw [Finset.sum_apply]
  exact Finset.sum_eq_zero fun i _ => not_not.mp fun h' => hne (h i g h')

theorem due_home (c : Dev nD) : ∀ g, due c g ≠ 0 → g.1 = (c : Thread nD τ) :=
  home_add (home_add (home_add (home_add (home_sum fun _ => home_tally _ _ _ _) (home_sum fun _ => home_tally _ _ _ _))
    (home_sum fun _ => home_tally _ _ _ _)) (home_sum fun _ => home_tally _ _ _ _)) (home_tally _ _ _ _)

/-- A direction's credits at launch. -/
def credsD (d : Bool) (c : Dev nD) : sProp 𝕄 :=
  iprop(bigSep (Finset.Ico 0 (hops d)) (recvCred (F := F) d c) ∗ bigSep (Finset.Ico 1 (hops d)) fun j => cred (tallyAt (cell c (.credit d)) j 1))

theorem cred_two (A B : CellTallies nD τ sig ℕ) : (cred (A + B) : sProp 𝕄) ⊢ iprop(cred A ∗ cred B) := (cred_add A B).1

theorem creds (c : Dev nD) :
    (Pipeline.launchCred O₀ c : sProp 𝕄) ⊢ iprop(credsD true c ∗ credsD false c ∗ cred (tallyAt (cell c .bar) 0 2)) := by
  rw [Pipeline.launchCred_of_sum O₀ due sum_owe due_home c]
  have hS (d : Bool) : (cred (dueS d c) : sProp 𝕄) = bigSep (Finset.Ico 0 (hops d)) (recvCred (F := F) d c) := Pipeline.cred_finsetSum _ _
  have hC (d : Bool) : (cred (dueC d c) : sProp 𝕄) = bigSep (Finset.Ico 1 (hops d)) fun j => cred (tallyAt (cell c (.credit d)) j 1) :=
    Pipeline.cred_finsetSum _ _
  unfold credsD
  rw [← hS, ← hS, ← hC, ← hC]
  unfold due dueB
  iintro H
  ihave H := (cred_two _ _) $$ H
  icases H with ⟨H, HB⟩
  ihave H := (cred_two _ _) $$ H
  icases H with ⟨H, HCf⟩
  ihave H := (cred_two _ _) $$ H
  icases H with ⟨H, HCt⟩
  ihave H := (cred_two _ _) $$ H
  icases H with ⟨HSt, HSf⟩
  isplitl [HSt HCt]
  · isplitl [HSt] <;> iassumption
  isplitl [HSf HCf]
  · isplitl [HSf] <;> iassumption
  iexact HB

/-! ## Tokens by payer -/

/-- What a device pays in one direction: on its send semaphores, on the next device's receive semaphores, on the
    previous device's credit semaphore and on its barrier semaphore. -/
abbrev Item : Type := Bool × (Fin 8 ⊕ (Fin 8 ⊕ (Fin 8 ⊕ Unit)))

def tokOf (x : Dev nD × Item) : GSem nD τ sig × ℕ × ℕ :=
  match x.2.2 with
  | .inl h => (cell x.1 (.send x.2.1 (sr h.val)), h.val / 2, 0)
  | .inr (.inl h) => (cell (nxt x.2.1 x.1) (.recv x.2.1 (sr (h.val + 1))), h.val / 2, 0)
  | .inr (.inr (.inl j)) => (cell (prv x.2.1 x.1) (.credit x.2.1), 0, j.val)
  | .inr (.inr (.inr _)) => (cell (prv x.2.1 x.1) .bar, 0, bi x.2.1)

theorem sr_succ_inj {a b : ℕ} (h : sr (a + 1) = sr (b + 1)) (h' : a / 2 = b / 2) : a = b := by
  have := congrArg Fin.val h; simp only [sr] at this; omega

theorem tokOf_inj : Function.Injective tokOf := by
  rintro ⟨c, d, i⟩ ⟨c', d', i'⟩ h
  have hg := congrArg Prod.fst h
  have hr := congrArg (fun x : GSem nD τ sig × ℕ × ℕ => x.2.1) h
  have hi := congrArg (fun x : GSem nD τ sig × ℕ × ℕ => x.2.2) h
  rcases i with i | i | i | i <;> rcases i' with i' | i' | i' | i' <;> dsimp only [tokOf] at hg hr hi <;>
    obtain ⟨hc, hk⟩ := cell_inj hg <;> first | exact Kind.noConfusion hk | skip
  · obtain ⟨hd, hs⟩ := Kind.send.inj hk; subst hc hd
    rw [Fin.ext (sr_inj_half hs hr)]
  · obtain ⟨hd, hs⟩ := Kind.recv.inj hk; subst hd
    rw [Fin.ext (sr_succ_inj hs hr), nxt_inj _ hc]
  · have hd := Kind.credit.inj hk; subst hd
    rw [Fin.ext hi, nxt_inj _ hc]
  · have hd : d = d' := by revert hi; cases d <;> cases d' <;> decide
    subst hd; rw [nxt_inj _ hc]

def ringToks : Finset (GSem nD τ sig × ℕ × ℕ) := Finset.univ.map ⟨tokOf, tokOf_inj⟩

theorem cell_injective : Function.Injective (fun x : Dev nD × Kind => cell x.1 x.2) := fun ⟨c, k⟩ ⟨c', k'⟩ h => by
  obtain ⟨rfl, rfl⟩ := cell_inj h; rfl
def ringCells : Finset (GSem nD τ sig) := Finset.univ.map ⟨fun x : Dev nD × Kind => cell x.1 x.2, cell_injective⟩

/-- The writer's tickets of device `c`: transfer `h` in direction `d`. -/
def wtOf (x : Dev nD × (Bool × Fin 8)) : Key × ℕ := ((nxt x.2.1 x.1, x.2.1, sr (x.2.2.val + 1)), x.2.2.val / 2)

theorem wtOf_inj : Function.Injective wtOf := by
  rintro ⟨c, d, h⟩ ⟨c', d', h'⟩ e
  have h1 : nxt d c = nxt d' c' := congrArg (fun x : Key × ℕ => x.1.1) e
  have h2 : d = d' := congrArg (fun x : Key × ℕ => x.1.2.1) e
  have h3 : sr (h.val + 1) = sr (h'.val + 1) := congrArg (fun x : Key × ℕ => x.1.2.2) e
  have h4 : h.val / 2 = h'.val / 2 := congrArg (fun x : Key × ℕ => x.2) e
  subst h2
  rw [nxt_inj _ h1, Fin.ext (sr_succ_inj h3 h4)]

/-! ## Sums over small types -/

section Small
variable {M : Type} [URA M]

theorem bigSep_fin_range (n : ℕ) (Φ : ℕ → sProp M) : (bigSep Finset.univ fun i : Fin n => Φ i.val) = bigSep (Finset.range n) Φ := by
  rw [show Finset.range n = Finset.univ.map (Fin.valEmbedding (n := n)) by ext i; simp, bigSep_map]; rfl

theorem bigSep_hops (d : Bool) (a : ℕ) (Φ : ℕ → sProp M) : (bigSep Finset.univ fun i : Fin 8 => Φ i.val) ⊢ bigSep (Finset.Ico a (hops d)) Φ := by
  rw [bigSep_fin_range]
  exact bigSep_subset fun i hi => Finset.mem_range.mpr (lt_of_lt_of_le (Finset.mem_Ico.mp hi).2 (hops_le d))

theorem bigSep_two (Φ : Bool → sProp M) : bigSep Finset.univ Φ = iprop(Φ true ∗ Φ false) :=
  bigSep_univ_eq_bigSepL [true, false] (by decide) (by decide) Φ

theorem bigSep_slots (Φ : Fin 2 → sProp M) : bigSep Finset.univ Φ = iprop(Φ 0 ∗ Φ 1) :=
  bigSep_univ_eq_bigSepL [0, 1] (by decide) (by decide) Φ

theorem bigSep_kinds (Φ : Kind → sProp M) : bigSep Finset.univ Φ
    = iprop(Φ .bar ∗ Φ (.send true 0) ∗ Φ (.send true 1) ∗ Φ (.recv true 0) ∗ Φ (.recv true 1)
      ∗ Φ (.send false 0) ∗ Φ (.send false 1) ∗ Φ (.recv false 0) ∗ Φ (.recv false 1) ∗ Φ (.credit true) ∗ Φ (.credit false)) :=
  bigSep_univ_eq_bigSepL kinds (by decide) (by decide) Φ

theorem bigSep_with {I : Type} [DecidableEq I] {S : Finset I} {R : sProp M} [BI.Persistent R] {Φ Ψ : I → sProp M}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- One resource, kept by one member of a family. -/
theorem bigSep_keep {I : Type} [Fintype I] [DecidableEq I] (i₀ : I) (P : sProp M) :
    (bigSep Finset.univ fun i => if i = i₀ then P else iprop(emp)) = P := by
  rw [bigSep_univ_at _ i₀, if_pos rfl, bigSep_congr (Ψ := fun _ => iprop(emp)) fun i hi => if_neg (Finset.mem_erase.mp hi).1]
  rw [show (bigSep (Finset.univ.erase i₀) fun _ : I => (iprop(emp) : sProp M)) = iprop(emp) from BI.bigSep_emp_const _]
  refine BI.Entails.antisymm (show _ ⊢ (_ : sProp M) from ?_) (show _ ⊢ (_ : sProp M) from ?_)
  · iintro ⟨H, -⟩; iexact H
  · iintro H; isplitl [H]
    · iexact H
    · iempintro

end Small

/-! ## What a device gets -/

/-- A direction's own ghost state, without the credits. -/
def gD (d : Bool) (c : Dev nD) : sProp 𝕄 :=
  iprop(readPos (F := F) d c 0 ∗ dutyTok ER (cell (prv d c) .bar) 0 (bi d) ∗ recvPos d c 0 ∗ stS d c 0 ∗ sendPos d c 0
    ∗ atPos ER (cell c (.credit d)) 0 ∅ 0 ∗ bigSep (Finset.Ico 1 (hops d)) fun j => dutyTok ER (cell (prv d c) (.credit d)) 0 j)

theorem dStart_intro (d : Bool) (c : Dev nD) : iprop(gD d c ∗ credsD d c) ⊢ dStart (F := F) d c := by
  have h7 := hops_ge d
  unfold gD credsD dStart stR stW stK credPos
  rw [Nat.zero_min, Nat.zero_min, if_neg (by omega)]
  iintro ⟨⟨Hr, Ht, HR, HS, HW, HK, HG⟩, HcR, HcK⟩
  isplitl [Hr]; · iexact Hr
  isplitl [Ht]; · iexact Ht
  isplitl [HR HcR]
  · isplitl [HR] <;> iassumption
  isplitl [HS]; · iexact HS
  isplitl [HW]; · iexact HW
  isplitl [HK HcK]
  · isplitl [HK]
    · iexists ∅
      isplitr
      · ipureintro; exact ⟨Nat.zero_le _, Finset.empty_subset _⟩
      isplitl [HK]; · iexact HK
      rw [bigSep_empty]; iempintro
    iexact HcK
  iexact HG

/-- The tokens of one direction: every transfer's two duties, every credit's, the barrier's. -/
def toksD (d : Bool) (c : Dev nD) : sProp 𝕄 :=
  iprop((bigSep Finset.univ fun h : Fin 8 => dutyTok (ER (F := F)) (cell c (.send d (sr h.val))) (h.val / 2) 0)
    ∗ (bigSep Finset.univ fun h : Fin 8 => dutyTok (ER (F := F)) (cell (nxt d c) (.recv d (sr (h.val + 1)))) (h.val / 2) 0)
    ∗ (bigSep Finset.univ fun j : Fin 8 => dutyTok (ER (F := F)) (cell (prv d c) (.credit d)) 0 j.val)
    ∗ dutyTok (ER (F := F)) (cell (prv d c) .bar) 0 (bi d))

theorem toks_split (c : Dev nD) :
    (bigSep Finset.univ fun i : Item => (dutyTok ER (tokOf (c, i)).1 (tokOf (c, i)).2.1 (tokOf (c, i)).2.2 : sProp 𝕄))
      = iprop(toksD true c ∗ toksD false c) := by
  rw [bigSep_univ_prod, bigSep_two]
  have h (d : Bool) : (bigSep Finset.univ fun i : Fin 8 ⊕ (Fin 8 ⊕ (Fin 8 ⊕ Unit)) =>
      (dutyTok ER (tokOf (c, d, i)).1 (tokOf (c, d, i)).2.1 (tokOf (c, d, i)).2.2 : sProp 𝕄)) = toksD d c := by
    rw [bigSep_univ_sum, bigSep_univ_sum, bigSep_univ_sum, bigSep_univ_of_subsingleton ()]; rfl
  rw [h, h]

/-- The tickets of one direction. -/
def wtD (d : Bool) (c : Dev nD) : sProp 𝕄 :=
  bigSep Finset.univ fun h : Fin 8 => writeTok (ES (F := F)) (nxt d c, d, sr (h.val + 1)) (h.val / 2 + 1)

theorem stS_intro (d : Bool) (c : Dev nD) :
    iprop((bigSep Finset.univ fun h : Fin 8 => dutyTok (ER (F := F)) (cell c (.send d (sr h.val))) (h.val / 2) 0)
      ∗ (bigSep Finset.univ fun h : Fin 8 => dutyTok (ER (F := F)) (cell (nxt d c) (.recv d (sr (h.val + 1)))) (h.val / 2) 0)
      ∗ wtD d c) ⊢ stS (F := F) d c 0 := by
  unfold stS wtD
  rw [← bigSep_sep', ← bigSep_sep']
  exact bigSep_hops d 0 (sendTok (F := F) d c)

/-- The slots' readers of one direction. -/
def rdD (d : Bool) (c : Dev nD) : sProp 𝕄 := bigSep Finset.univ fun s : Fin 2 => readerAt (ES (F := F)) (c, d, s) 0

/-- A device's positions. -/
def posns (c : Dev nD) : sProp 𝕄 := bigSep Finset.univ fun k : Kind => atPos (ER (F := F)) (cell c k) 0 ∅ 0

/-- A device's share. -/
def linear (c : Dev nD) : sProp 𝕄 :=
  iprop(posns c ∗ (toksD true c ∗ toksD false c) ∗ (wtD true c ∗ wtD false c) ∗ (rdD true c ∗ rdD false c))

/-- One direction of a device's share. -/
theorem gD_intro (d : Bool) (c : Dev nD) :
    iprop(envR ∗ (atPos (ER (F := F)) (cell c (.send d 0)) 0 ∅ 0 ∗ atPos ER (cell c (.send d 1)) 0 ∅ 0
        ∗ atPos ER (cell c (.recv d 0)) 0 ∅ 0 ∗ atPos ER (cell c (.recv d 1)) 0 ∅ 0 ∗ atPos ER (cell c (.credit d)) 0 ∅ 0)
      ∗ toksD d c ∗ wtD d c ∗ rdD d c) ⊢ gD (F := F) d c := by
  unfold toksD rdD gD
  rw [bigSep_slots]
  iintro ⟨#HR, ⟨Hs0, Hs1, Hr0, Hr1, Hk⟩, ⟨HtS, HtR, HtK, HtB⟩, Hw, Hd0, Hd1⟩
  isplitl [Hd0 Hd1]
  · rw [readPos_eq d c 0]
    isplitl [Hd1]
    · iapply (show readerAt (ES (F := F)) (c, d, 1) 0 ⊢ readerAt (ES (F := F)) (c, d, sr (0 + 1)) (0 / 2) from Entails.of_eq rfl); iexact Hd1
    · iapply (show readerAt (ES (F := F)) (c, d, 0) 0 ⊢ readerAt (ES (F := F)) (c, d, sr 0) ((0 + 1) / 2) from Entails.of_eq rfl); iexact Hd0
  isplitl [HtB]; · iexact HtB
  isplitl [Hr0 Hr1]
  · rw [recvPos_eq d c 0]; unfold pos
    isplitl [Hr1]
    · isplitl [Hr1]
      · iapply (show atPos (ER (F := F)) (cell c (.recv d 1)) 0 ∅ 0 ⊢ atPos (ER (F := F)) (cell c (.recv d (sr (0 + 1)))) (0 / 2) ∅ 0 from Entails.of_eq rfl); iexact Hr1
      · iapply (show reached (ER (F := F)) (cell c (.recv d 1)) 0 ⊢ reached (ER (F := F)) (cell c (.recv d (sr (0 + 1)))) (0 / 2) from Entails.of_eq rfl)
        iapply (envR_reached c (.recv d 1)); iexact HR
    · isplitl [Hr0]
      · iapply (show atPos (ER (F := F)) (cell c (.recv d 0)) 0 ∅ 0 ⊢ atPos (ER (F := F)) (cell c (.recv d (sr 0))) ((0 + 1) / 2) ∅ 0 from Entails.of_eq rfl); iexact Hr0
      · iapply (show reached (ER (F := F)) (cell c (.recv d 0)) 0 ⊢ reached (ER (F := F)) (cell c (.recv d (sr 0))) ((0 + 1) / 2) from Entails.of_eq rfl)
        iapply (envR_reached c (.recv d 0)); iexact HR
  isplitl [HtS HtR Hw]
  · iapply (stS_intro d c)
    isplitl [HtS]; · iexact HtS
    isplitl [HtR] <;> iassumption
  isplitl [Hs0 Hs1]
  · rw [sendPos_eq d c 0]; unfold pos
    isplitl [Hs0]
    · isplitl [Hs0]
      · iapply (show atPos (ER (F := F)) (cell c (.send d 0)) 0 ∅ 0 ⊢ atPos (ER (F := F)) (cell c (.send d (sr 0))) (0 / 2) ∅ 0 from Entails.of_eq rfl); iexact Hs0
      · iapply (show reached (ER (F := F)) (cell c (.send d 0)) 0 ⊢ reached (ER (F := F)) (cell c (.send d (sr 0))) (0 / 2) from Entails.of_eq rfl)
        iapply (envR_reached c (.send d 0)); iexact HR
    · isplitl [Hs1]
      · iapply (show atPos (ER (F := F)) (cell c (.send d 1)) 0 ∅ 0 ⊢ atPos (ER (F := F)) (cell c (.send d (sr (0 + 1)))) ((0 + 1) / 2) ∅ 0 from Entails.of_eq rfl); iexact Hs1
      · iapply (show reached (ER (F := F)) (cell c (.send d 1)) 0 ⊢ reached (ER (F := F)) (cell c (.send d (sr (0 + 1)))) ((0 + 1) / 2) from Entails.of_eq rfl)
        iapply (envR_reached c (.send d 1)); iexact HR
  isplitl [Hk]; · iexact Hk
  iapply (bigSep_hops d 1 fun j => dutyTok (ER (F := F)) (cell (prv d c) (.credit d)) 0 j); iexact HtK

variable (X0 : Dev nD → Blk F)

/-- What a device's body starts from, apart from the levels and the credits. -/
def G' (c : Dev nD) : sProp 𝕄 :=
  iprop(∃ κ ιs, (envC X0 κ ∗ envS ιs ∗ envR) ∗ gD true c ∗ gD false c ∗ atPos ER (cell c .bar) 0 ∅ 0)

theorem G'_intro (κ : Dev nD × Kind → ℕ) (ιs : Key → ℕ) (c : Dev nD) :
    iprop((envC X0 κ ∗ envS ιs ∗ envR) ∗ linear c) ⊢ G' (F := F) X0 c := by
  unfold linear posns G'
  rw [bigSep_kinds]
  iintro ⟨⟨#HC, #HS, #HR⟩, ⟨Hb, Hst0, Hst1, Hrt0, Hrt1, Hsf0, Hsf1, Hrf0, Hrf1, Hkt, Hkf⟩, ⟨Htt, Htf⟩, ⟨Hwt, Hwf⟩, ⟨Hdt, Hdf⟩⟩
  iexists κ, ιs
  isplitr
  · isplitr; · iexact HC
    isplitr; · iexact HS
    iexact HR
  isplitl [Hst0 Hst1 Hrt0 Hrt1 Hkt Htt Hwt Hdt]
  · iapply (gD_intro true c)
    isplitr; · iexact HR
    isplitl [Hst0 Hst1 Hrt0 Hrt1 Hkt]
    · isplitl [Hst0]; · iexact Hst0
      isplitl [Hst1]; · iexact Hst1
      isplitl [Hrt0]; · iexact Hrt0
      isplitl [Hrt1]; · iexact Hrt1
      iexact Hkt
    isplitl [Htt]; · iexact Htt
    isplitl [Hwt] <;> iassumption
  isplitl [Hsf0 Hsf1 Hrf0 Hrf1 Hkf Htf Hwf Hdf]
  · iapply (gD_intro false c)
    isplitr; · iexact HR
    isplitl [Hsf0 Hsf1 Hrf0 Hrf1 Hkf]
    · isplitl [Hsf0]; · iexact Hsf0
      isplitl [Hsf1]; · iexact Hsf1
      isplitl [Hrf0]; · iexact Hrf0
      isplitl [Hrf1]; · iexact Hrf1
      iexact Hkf
    isplitl [Htf]; · iexact Htf
    isplitl [Hwf] <;> iassumption
  iexact Hb

/-! ## The deal -/

/-- What the launch element deals device `c`; the slots' part stays in one piece, with one device. -/
def G (c : Dev nD) : sProp 𝕄 :=
  iprop((bigSep Finset.univ fun k : Kind => roundState ER (Rd X0) (cell c k) 0)
    ∗ posns c ∗ (bigSep Finset.univ fun k : Kind => reached ER (cell c k) 0) ∗ (toksD true c ∗ toksD false c)
    ∗ if c = 0 then BI.own (ES (initSlots (Finset.univ : Finset Key) 4)) else iprop(emp))

def u₁ : UB × USlots Key := (initOf ringCells ringToks, initSlots Finset.univ 4)

theorem fund_ring : BI.own (EX u₁) ⊢ (|==> bigSep Finset.univ (G X0) : sProp 𝕄) := by
  have hX (Φ : GSem nD τ sig → sProp 𝕄) : bigSep ringCells Φ = bigSep Finset.univ fun c : Dev nD => bigSep Finset.univ fun k : Kind => Φ (cell c k) := by
    unfold ringCells; rw [bigSep_map, bigSep_univ_prod]; rfl
  have hT : bigSep ringToks (fun x => (dutyTok ER x.1 x.2.1 x.2.2 : sProp 𝕄)) = bigSep Finset.univ fun c : Dev nD => iprop(toksD true c ∗ toksD false c) := by
    unfold ringToks; rw [bigSep_map, bigSep_univ_prod]
    exact bigSep_congr fun c _ => toks_split c
  unfold u₁
  iintro HX
  ihave HX := (own_pair_emb EX (initOf ringCells ringToks) (initSlots (Finset.univ : Finset Key) 4)) $$ HX
  icases HX with ⟨HX, HS⟩
  ihave HX := (show BI.own (((Emb.inl : Emb UB (UB × USlots Key)).trans EX) (initOf ringCells ringToks)) ⊢ BI.own (ER (F := F) (initOf ringCells ringToks)) from Entails.of_eq rfl) $$ HX
  ihave HS := (show BI.own (((Emb.inr : Emb (USlots Key) (UB × USlots Key)).trans EX) (initSlots (Finset.univ : Finset Key) 4)) ⊢ BI.own (ES (F := F) (initSlots (Finset.univ : Finset Key) 4)) from Entails.of_eq rfl) $$ HS
  imod (Rounds.fund ER (Rd X0) ringCells ringToks) $$ HX with ⟨Hst, Hr, Hat, Htok⟩
  imodintro
  ihave Hst' := (Entails.of_eq (hX fun g => roundState ER (Rd X0) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (Entails.of_eq (bigSep_keep (0 : Dev nD) (BI.own (ES (F := F) (initSlots (Finset.univ : Finset Key) 4)))).symm) $$ HS
  iapply (show iprop((bigSep Finset.univ fun c : Dev nD => bigSep Finset.univ fun k : Kind => roundState ER (Rd X0) (cell c k) 0)
      ∗ (bigSep Finset.univ fun c : Dev nD => posns (F := F) c)
      ∗ (bigSep Finset.univ fun c : Dev nD => bigSep Finset.univ fun k : Kind => reached ER (cell c k) 0)
      ∗ (bigSep Finset.univ fun c : Dev nD => iprop(toksD (F := F) true c ∗ toksD false c))
      ∗ (bigSep Finset.univ fun c : Dev nD => if c = 0 then BI.own (ES (F := F) (initSlots (Finset.univ : Finset Key) 4)) else iprop(emp)))
      ⊢ bigSep Finset.univ (G X0) from by
    unfold G; simp only [bigSep_sep']
    iintro H; iexact H)
  isplitl [Hst']; · iexact Hst'
  isplitl [Hat']; · iexact Hat'
  isplitl [Hr']; · iexact Hr'
  isplitl [Htok']; · iexact Htok'
  iexact HS'

end Cert.KernelIdeal.RingProof

end
-- ==== Proof.Launch.lean ====
/-
The launch: the region's data, the deal of the invariants to the devices, and the run of all of them.
-/
module

public import Idealize.ShloMosaic.Lib.Pipeline.CollectiveSegs
public import Idealize.ShloMosaic.Lib.StableHlo.RunHlo
public import proofs.«01_k».proof.Proof.Deal
public import proofs.«01_k».proof.Proof.Gen.KernelIdeal.Launch
public import proofs.«01_k».proof.Proof.Gen.KernelIdeal.Points

@[expose] public section

noncomputable section

namespace Cert.KernelIdeal.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.Pipeline (Dat Cfg Window BodyObligation cellOf)
variable {F : FTy → Type} [FloatOps F]

local notation "𝕄" => MT nD τ sig ℕ (Elt F) ℕ UU ℕ

variable (m : (ℓ : Loc nD τ sig) → Buf (Elt F) ℓ) (ρ : Dev nD → PrngReg)

/-- The start of the run: the given memory, every counter at zero. -/
def s₀ : MemSt nD τ sig (Elt F) := ⟨m, fun _ => 0, ρ⟩

/-- A device's blocks of queries, keys and values, as brought to it. -/
def kqOf (c : Dev nD) : S2048x256.Idx → Elt F .f32 := (win0_0.blk (0 : Fin 1)).view.read (Elt F) ((s₀ m ρ).mem ((c : Thread nD τ).loc main_arg0))
def kkOf (c : Dev nD) : S2048x256.Idx → Elt F .f32 := (win0_1.blk (0 : Fin 1)).view.read (Elt F) ((s₀ m ρ).mem ((c : Thread nD τ).loc main_arg1))
def kvOf (c : Dev nD) : S2048x256.Idx → Elt F .f32 := (win0_2.blk (0 : Fin 1)).view.read (Elt F) ((s₀ m ρ).mem ((c : Thread nD τ).loc main_arg2))

/-- The block of keys and values a device sends around. -/
def X0 (c : Dev nD) : Blk F := k0_pay32 (kkOf m ρ c) (kvOf m ρ c)

/-! ## The region's data -/

/-- The kernel's own semaphores: all but the barrier's. -/
def ownKind : Fin 10 → Kind
  | 0 => .send true 0 | 1 => .send true 1 | 2 => .recv true 0 | 3 => .recv true 1 | 4 => .send false 0
  | 5 => .send false 1 | 6 => .recv false 0 | 7 => .recv false 1 | 8 => .credit true | 9 => .credit false
def osem (i : Fin 10) : SemLoc sig := semOf (ownKind i)

/-- What the body starts from, but for its buffers. -/
def start (c : Dev nD) : sProp 𝕄 :=
  iprop(∃ κ ιs, env (X0 m ρ) κ ιs ∗ dStart true c ∗ dStart false c ∗ bStart c)

def Φ₀ (c : Dev nD) : sProp 𝕄 :=
  iprop(start m ρ c ∗ (free c true 0 ∗ free c true 1) ∗ (free c false 0 ∗ free c false 1) ∗ (∃ f, qpt c f) ∗ (∃ f, apt c f) ∗ (∃ f, lpt c f))

def Φ₁ (c : Dev nD) : sProp 𝕄 :=
  iprop(unscopedSems0 c ∗ Pipeline.ownSems0 osem c ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => kqOf m ρ c
    | ⟨1, _⟩ => kkOf m ρ c
    | ⟨2, _⟩ => kvOf m ρ c
    | ⟨3, _⟩ => result (X0 m ρ) (kqOf m ρ c) c
  Φ t := match t with | ⟨0, _⟩ => Φ₀ m ρ c | ⟨_ + 1, _⟩ => Φ₁ c
  q _ := fullShare
  owed t := match t with | ⟨0, _⟩ => O₀ c | ⟨_ + 1, _⟩ => 0

theorem fin_N (t : Fin cfg0.N) : t = t0_0 := fin_N0 t

theorem owns_whole_eq (c : Dev nD) (b : Ref sig .tc) (X : Buf (Elt F) ((c : Thread nD τ).loc b)) :
    (owns (c : Thread nD τ) (Memref.whole b) fullShare X : sProp 𝕄)
      = iprop(∃ f, ⌜f = X⌝ ∗ ((c : Thread nD τ).loc b) ↦{fullShare} f) := by
  unfold owns; simp only [Memref.view_whole, View.read_whole, View.set_whole]

/-- A staging buffer at contents `X`. -/
def stg (c : Dev nD) (b : Ref sig .tc) (X : Buf (Elt F) ((c : Thread nD τ).loc b)) : sProp 𝕄 :=
  iprop(∃ f, ⌜f = X⌝ ∗ ((c : Thread nD τ).loc b) ↦{fullShare} f)

/-! ## The semaphores, listed -/

theorem ownSems0_eq (c : Dev nD) : (Pipeline.ownSems0 (Ix := ℕ) (Name := ℕ) (U := UU) (Lvl := ℕ) (Val := Elt F) (τ := τ) osem c : sProp 𝕄)
    = iprop(semVal (cell c (.send true 0)) 0 ∗ semVal (cell c (.send true 1)) 0 ∗ semVal (cell c (.recv true 0)) 0 ∗ semVal (cell c (.recv true 1)) 0
      ∗ semVal (cell c (.send false 0)) 0 ∗ semVal (cell c (.send false 1)) 0 ∗ semVal (cell c (.recv false 0)) 0 ∗ semVal (cell c (.recv false 1)) 0
      ∗ semVal (cell c (.credit true)) 0 ∗ semVal (cell c (.credit false)) 0) := by
  rw [Pipeline.ownSems0_eq_of_list c osem [0, 1, 2, 3, 4, 5, 6, 7, 8, 9] (by decide) (by decide)]; rfl

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Kind => semVal (cell c k) 0 : sProp 𝕄) := by
  rw [ownSems0_eq, unscopedSems0_eq, bigSep_kinds]
  iintro ⟨⟨H0, H1, H2, H3, H4, H5, H6, H7, H8, H9⟩, HB⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

/-! ## The body's obligation -/

/-- What the body holds at its start, in the region's form. -/
def regPre (c : Dev nD) : sProp 𝕄 :=
  iprop(Φ₀ m ρ c ∗ (dats m ρ 0 c).owesAt 0 t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

/-- And at its end. -/
def regPost (c : Dev nD) : sProp 𝕄 :=
  iprop(Φ₁ c ∗ (dats m ρ 0 c).owesAt 0 t0_0.succ
    ∗ stg c cc0_stg0_0 (kqOf m ρ c) ∗ stg c cc0_stg1_0 (kkOf m ρ c) ∗ stg c cc0_stg2_0 (kvOf m ρ c)
    ∗ stg c cc0_stg3_0 (result (X0 m ρ) (kqOf m ρ c) c))

theorem reg_post (c : Dev nD) : bodyPost (X0 m ρ) (kqOf m ρ c) (kkOf m ρ c) (kvOf m ρ c) c ⊢ regPost m ρ c := by
  unfold bodyPost dEnd semsD regPost Φ₁ ow kqpt kkpt kvpt kopt stg
  rw [scopedRest0_eq, ownSems0_eq, unscopedSems0_eq]
  iintro ⟨⟨⟨Ts0, Ts1, Tr0, Tr1, Tk⟩, Tf1, Tf0⟩, ⟨⟨Fs1, Fs0, Fr1, Fr0, Fk⟩, Ff0, Ff1⟩, HB, ⟨%W, HO⟩, Hq, Hk, Hv, Ho, HQ, HA, HL⟩
  isplitl [Ts0 Ts1 Tr0 Tr1 Tk Tf1 Tf0 Fs1 Fs0 Fr1 Fr0 Fk Ff0 Ff1 HB HQ HA HL]
  · isplitl [HB]; · iexact HB
    isplitl [Ts0 Ts1 Tr0 Tr1 Tk Fs1 Fs0 Fr1 Fr0 Fk]
    · isplitl [Ts0]; · iexact Ts0
      isplitl [Ts1]; · iexact Ts1
      isplitl [Tr0]; · iexact Tr0
      isplitl [Tr1]; · iexact Tr1
      isplitl [Fs0]; · iexact Fs0
      isplitl [Fs1]; · iexact Fs1
      isplitl [Fr0]; · iexact Fr0
      isplitl [Fr1]; · iexact Fr1
      isplitl [Tk] <;> iassumption
    isplitl [Tf1 Tf0]
    · iapply (buf_join (F := F) c true)
      isplitl [Tf0]; · iexact Tf0
      iexact Tf1
    isplitl [Ff1 Ff0]
    · iapply (buf_join (F := F) c false)
      isplitl [Ff0]; · iexact Ff0
      iexact Ff1
    isplitl [HQ]; · iexact HQ
    isplitl [HA]; · iexact HA
    iexact HL
  isplitl [HO]
  · unfold Dat.owesAt Pipeline.owesWithin
    iexists W
    isplitr
    · ipureintro; exact fun _ _ => Or.inl trivial
    · iexact HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexists _; isplitr; · (ipureintro; rfl)
  iexact Ho

theorem before_0 (c : Dev nD) (d) : (dats m ρ 0 c).before (0 : Fin 4) t0_0 d = kqOf m ρ c := by
  unfold Dat.before; rw [if_pos (fetch0_0 t0_0)]; rfl
theorem before_1 (c : Dev nD) (d) : (dats m ρ 0 c).before (1 : Fin 4) t0_0 d = kkOf m ρ c := by
  unfold Dat.before; rw [if_pos (fetch0_1 t0_0)]; rfl
theorem before_2 (c : Dev nD) (d) : (dats m ρ 0 c).before (2 : Fin 4) t0_0 d = kvOf m ρ c := by
  unfold Dat.before; rw [if_pos (fetch0_2 t0_0)]; rfl

theorem reg_body (c : Dev nD) : regPre m ρ c ⊢ WP c (prog (F := F)) (fun _ => regPost m ρ c) := by
  have hm : WP c (prog (F := F)) (fun _ => bodyPost (X0 m ρ) (kqOf m ρ c) (kkOf m ρ c) (kvOf m ρ c) c) ⊢ WP c (prog (F := F)) (fun _ => regPost m ρ c) :=
    Idealize.SL.Sem.wp_mono _ _ _ fun _ => reg_post m ρ c
  refine BI.Entails.trans (show _ ⊢ (_ : sProp 𝕄) from ?_) hm
  unfold regPre Φ₀ start stg
  iintro ⟨⟨⟨%κ, %ιs, #HE, Ht, Hf, Hb⟩, ⟨Ht0, Ht1⟩, ⟨Hf0, Hf1⟩, HQ, HA, HL⟩, HO, ⟨%d0, %g0, %h0, H0⟩, ⟨%d1, %g1, %h1, H1⟩, ⟨%d2, %g2, %h2, H2⟩, ⟨%d3, %g3, %h3, H3⟩⟩
  have e0 := h0.trans (before_0 m ρ c d0); subst e0
  have e1 := h1.trans (before_1 m ρ c d1); subst e1
  have e2 := h2.trans (before_2 m ρ c d2); subst e2
  unfold Dat.owesAt Pipeline.owesWithin
  icases HO with ⟨%W, %hW, HO⟩
  have hp : iprop(env (X0 m ρ) κ ιs ∗ bodyPre (kqOf m ρ c) (kkOf m ρ c) (kvOf m ρ c) g3 c)
      ⊢ WP c (prog (F := F)) (fun _ => bodyPost (X0 m ρ) (kqOf m ρ c) (kkOf m ρ c) (kvOf m ρ c) c) :=
    wp_prog rfl
  iapply hp
  isplitr; · iexact HE
  unfold bodyPre
  isplitl [Ht]; · iexact Ht
  isplitl [Hf]; · iexact Hf
  isplitl [Hb]; · iexact Hb
  isplitl [HO]
  · unfold ow; iexists W; iexact HO
  isplitl [H0]; · (unfold kqpt; iexact H0)
  isplitl [H1]; · (unfold kkpt; iexact H1)
  isplitl [H2]; · (unfold kvpt; iexact H2)
  isplitl [H3]; · (unfold kopt; iexact H3)
  isplitl [Ht0]; · iexact Ht0
  isplitl [Ht1]; · iexact Ht1
  isplitl [Hf0]; · iexact Hf0
  isplitl [Hf1]; · iexact Hf1
  isplitl [HQ]; · iexact HQ
  isplitl [HA]; · iexact HA
  iexact HL

set_option maxRecDepth 8000 in
/-- The library's obligation on the body of core `c`. -/
theorem body_obligation (c : Dev nD) : BodyObligation (dats (F := F) m ρ 0 c) (defs₀ (F := F)) 𝒱₀ 0 Set.univ := fun t => by
  rw [fin_N t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  exact reg_body m ρ c

/-! ## The deal of everything -/

/-- One device's invariants. -/
theorem core_alloc (c : Dev nD) :
    iprop(Pipeline.ownSems0 (Ix := ℕ) (Name := ℕ) (U := UU) (Lvl := ℕ) (Val := Elt F) (τ := τ) osem c ∗ unscopedSems0 c ∗ G (X0 m ρ) c)
      ⊢ |={Set.univ}=> iprop((bigSep Finset.univ fun k : Kind => iprop(∃ κ : ℕ, cellInv ER (Rd (X0 m ρ)) κ (cell c k)))
          ∗ posns c ∗ (bigSep Finset.univ fun k : Kind => reached ER (cell c k) 0) ∗ (toksD true c ∗ toksD false c)
          ∗ if c = 0 then BI.own (ES (initSlots (Finset.univ : Finset Key) 4)) else iprop(emp)) := by
  unfold G
  iintro ⟨Hos, Hus, Hst, Hrest⟩
  ihave Hv := (sems0_eq (F := F) c) $$ [Hos Hus]
  · isplitl [Hos] <;> iassumption
  imod (show iprop((bigSep Finset.univ fun k : Kind => semVal (cell c k) 0) ∗ bigSep Finset.univ fun k : Kind => roundState ER (Rd (X0 m ρ)) (cell c k) 0)
      ⊢ (|={Set.univ}=> bigSep Finset.univ fun k : Kind => iprop(∃ κ : ℕ, cellInv ER (Rd (X0 m ρ)) κ (cell c k)) : sProp 𝕄) from by
        rw [← bigSep_sep']
        exact (bigSep_mono fun k _ => (Rounds.body_intro ER (Rd (X0 m ρ)) (cell c k)).trans inv_alloc).trans (bigSep_fupd _ _)) $$ [Hv Hst] with Hinv
  · isplitl [Hv] <;> iassumption
  imodintro
  isplitl [Hinv]; · iexact Hinv
  iexact Hrest

/-- The tickets, picked out of all of them. -/
theorem tickets : (bigSep ((Finset.univ : Finset Key) ×ˢ Finset.range 4) fun x => writeTok (ES (F := F)) x.1 (x.2 + 1) : sProp 𝕄)
    ⊢ bigSep Finset.univ fun c : Dev nD => iprop(wtD true c ∗ wtD false c) := by
  refine BI.Entails.trans (bigSep_subset (t := (Finset.univ : Finset (Dev nD × Bool × Fin 8)).map ⟨wtOf, wtOf_inj⟩) ?_) (show _ ⊢ (_ : sProp 𝕄) from Entails.of_eq ?_)
  · intro x hx
    obtain ⟨y, -, rfl⟩ := Finset.mem_map.mp hx
    exact Finset.mem_product.mpr ⟨Finset.mem_univ _, Finset.mem_range.mpr (by
      rcases y with ⟨c, d, h⟩
      show h.val / 2 < 4
      have := h.isLt; omega)⟩
  · rw [bigSep_map, bigSep_univ_prod]
    refine bigSep_congr fun c _ => ?_
    rw [bigSep_univ_prod, bigSep_two]; rfl

/-- The readers, device by device. -/
theorem readers : (bigSep (Finset.univ : Finset Key) fun y => readerAt (ES (F := F)) y 0 : sProp 𝕄)
    = bigSep Finset.univ fun c : Dev nD => iprop(rdD true c ∗ rdD false c) := by
  rw [bigSep_univ_prod]
  refine bigSep_congr fun c _ => ?_
  rw [bigSep_univ_prod, bigSep_two]; rfl

theorem regroup :
    (bigSep Finset.univ fun c : Dev nD => iprop((bigSep Finset.univ fun k : Kind => iprop(∃ κ : ℕ, cellInv ER (Rd (X0 m ρ)) κ (cell c k)))
          ∗ posns c ∗ (bigSep Finset.univ fun k : Kind => reached ER (cell c k) 0) ∗ (toksD true c ∗ toksD false c)
          ∗ if c = 0 then BI.own (ES (initSlots (Finset.univ : Finset Key) 4)) else iprop(emp)) : sProp 𝕄)
      ⊢ |={Set.univ}=> bigSep Finset.univ (G' (X0 m ρ)) := by
  rw [bigSep_sep', bigSep_sep', bigSep_sep', bigSep_sep', bigSep_keep (0 : Dev nD) (BI.own (ES (F := F) (initSlots (Finset.univ : Finset Key) 4))),
    ← bigSep_univ_prod (fun x : Dev nD × Kind => iprop(∃ κ : ℕ, cellInv ER (Rd (X0 m ρ)) κ (cell x.1 x.2))),
    ← bigSep_univ_prod (fun x : Dev nD × Kind => (reached ER (cell x.1 x.2) 0 : sProp 𝕄))]
  iintro ⟨HI, Hat, #HR, Htok, HS⟩
  ihave HK := (BI.bigSep_exists_pi Finset.univ (fun (x : Dev nD × Kind) (κ : ℕ) => (cellInv ER (Rd (X0 m ρ)) κ (cell x.1 x.2) : sProp 𝕄))) $$ HI
  icases HK with ⟨%κ, #HI⟩
  imod (Release.slots_init (Es := Set.univ) (ES (F := F)) (Finset.univ : Finset Key) 4 (fun y : Key => free (F := F) y.1 y.2.1 y.2.2)) $$ HS with ⟨%ιs, -, #HSl, Hrd, Hwt⟩
  imodintro
  ihave Hrd := (Entails.of_eq (readers (F := F))) $$ Hrd
  ihave Hwt := (tickets (F := F)) $$ Hwt
  iapply (bigSep_with (R := iprop(envC (X0 m ρ) κ ∗ envS ιs ∗ envR)) fun c => G'_intro (X0 m ρ) κ ιs c)
  isplitr
  · unfold envC envS envR
    isplitr; · iexact HI
    isplitr; · iexact HSl
    iexact HR
  iapply (show iprop((bigSep Finset.univ fun c : Dev nD => posns (F := F) c) ∗ (bigSep Finset.univ fun c : Dev nD => iprop(toksD (F := F) true c ∗ toksD false c))
      ∗ (bigSep Finset.univ fun c : Dev nD => iprop(wtD (F := F) true c ∗ wtD false c)) ∗ (bigSep Finset.univ fun c : Dev nD => iprop(rdD (F := F) true c ∗ rdD false c)))
      ⊢ bigSep Finset.univ (linear (F := F)) from by
    rw [← bigSep_sep', ← bigSep_sep', ← bigSep_sep']
    iintro H; iexact H)
  isplitl [Hat]; · iexact Hat
  isplitl [Htok]; · iexact Htok
  isplitl [Hwt]; · iexact Hwt
  iexact Hrd

theorem glob : (bigSep Finset.univ fun c => iprop(Pipeline.ownSems0 (Ix := ℕ) (Name := ℕ) (U := UU) (Lvl := ℕ) (Val := Elt F) (τ := τ) osem c ∗ unscopedSems0 c ∗ G (X0 m ρ) c) : sProp 𝕄)
    ⊢ |={Set.univ}=> bigSep Finset.univ (G' (X0 m ρ)) := by
  have h : (bigSep Finset.univ fun c : Dev nD => _ : sProp 𝕄) ⊢ |={Set.univ}=> bigSep Finset.univ fun c : Dev nD => _ :=
    (bigSep_mono fun c _ => core_alloc m ρ c).trans (bigSep_fupd _ _)
  iintro H
  imod h $$ H with H
  imod (regroup m ρ) $$ H with H
  imodintro
  iexact H

/-! ## The side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (X0 m ρ) c)
      ⊢ |={Set.univ}=> iprop(start m ρ c ∗ emp) := by
  iintro ⟨-, #Hlev, Hcr, -, HG⟩
  ihave Hc := (creds (F := F) c) $$ Hcr
  icases Hc with ⟨Ht, Hf, Hb⟩
  unfold start G'
  icases HG with ⟨%κ, %ιs, ⟨#HC, #HS, #HR⟩, Gt, Gf, Hp⟩
  imodintro
  isplitl
  · iexists κ, ιs
    isplitr
    · unfold env
      isplitr; · iexact HC
      isplitr; · iexact HS
      isplitr; · iexact HR
      iexact Hlev
    isplitl [Ht Gt]
    · iapply (dStart_intro true c)
      isplitl [Gt] <;> iassumption
    isplitl [Hf Gf]
    · iapply (dStart_intro false c)
      isplitl [Gf] <;> iassumption
    unfold bStart
    isplitl [Hb] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, HT, HF, HQ, HA, HL⟩
  isplitl [Hs]; · iexact Hs
  isplitl [HT]
  · iapply (buf_split (F := F) c true); iexact HT
  isplitl [HF]
  · iapply (buf_split (F := F) c false); iexact HF
  isplitl [HQ]; · iexact HQ
  isplitl [HA]; · iexact HA
  iexact HL

theorem phi1_exit (c : Dev nD) :
    (dats m ρ 0 c).Φ (Fin.last cfg0.N) ⊢ iprop(unscopedSems0 c ∗ Pipeline.ownSems0 osem c ∗ Pipeline.scopedRest cfg0.spec c) :=
  Entails.of_eq rfl

theorem lv_stage (c : Dev nD) (sm : SemLoc sig) (h : ∀ k, semOf k ≠ sm) (u : ℕ) : lv ((c : Thread nD τ), sm) u = 0 := by
  have : kindOf sm = none := dif_neg fun ⟨k, hk⟩ => h k hk
  unfold lv; rw [this]

theorem waits (c : Dev nD) : (levAts L lv : sProp 𝕄) ⊢ Pipeline.cellsWaits cfgs (dats m ρ) 0 0 c :=
  Pipeline.cellsWaits_intro cfgs (dats m ρ) 0 0 c fun w s t =>
    may_sem c (b := 0) (by decide) (le_of_eq (lv_stage c _ (by fin_cases w <;> fin_cases s <;> decide +kernel) _)) (by
      rcases t with ⟨_ | _, ht⟩
      · exact above_O₀ c
      · exact above_zero 0)

/-! ## The run -/

def u₀ : UU := (initOf (Pipeline.cells cfgs cellOf_inj) (Pipeline.launchToks cfgs cellOf_inj), u₁)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters: the kernels of the sixteen devices terminate under every fair schedule, and then
    every array of every device is at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (X0 m ρ)) (G' := G' (X0 m ρ)) (u₀ := u₀)
    (hu₀ := by
      unfold u₀
      iintro Hu
      ihave H := (ownU_pair _ _) $$ Hu
      icases H with ⟨HP, HX⟩
      imod (fund_ring (X0 m ρ)) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the run leaves -/

theorem finalA_q (c : Dev nD) : finalA m ρ c (0 : Fin 4) = m ((c : Thread nD τ).loc main_arg0) := (dats (F := F) m ρ 0 c).arrAt_in (0 : Fin 4) rfl _
theorem finalA_k (c : Dev nD) : finalA m ρ c (1 : Fin 4) = m ((c : Thread nD τ).loc main_arg1) := (dats (F := F) m ρ 0 c).arrAt_in (1 : Fin 4) rfl _
theorem finalA_v (c : Dev nD) : finalA m ρ c (2 : Fin 4) = m ((c : Thread nD τ).loc main_arg2) := (dats (F := F) m ρ 0 c).arrAt_in (2 : Fin 4) rfl _

/-- The arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_mono (run_main m ρ) fun r h => ⟨fun c => ⟨(h.1 c (0 : Fin 4)).trans (finalA_q m ρ c), (h.1 c (1 : Fin 4)).trans (finalA_k m ρ c),
    (h.1 c (2 : Fin 4)).trans (finalA_v m ρ c)⟩, h.2⟩

end Cert.KernelIdeal.RingProof

end
-- ==== Proof.Sums.lean ====
/-
# Sums of extended reals

What the two programs' results have in common, away from both: weights that are exponentials of
real scores may be scaled by one positive real before they are divided by their sum, whatever the
values they weigh.
-/
module

public import Idealize.ShloMosaic.PureOps.Ideal
public import Idealize.ShloMosaic.PureOps.Ideal.Laws
public import Idealize.ShloMosaic.Lib.IdealHost
public import Idealize.ShloMosaic.Lib.ValueIdx

@[expose] public section

namespace Cert.Sums

open Idealize.ShloMosaic

variable {ι : Type*}

/-- A nonnegative real factor goes into a sum. -/
theorem sum_mul_real (s : Finset ι) (a : ι → EReal) {c : ℝ} (hc : 0 ≤ c) :
    (∑ t ∈ s, a t) * (c : EReal) = ∑ t ∈ s, a t * (c : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hc) (EReal.coe_ne_top c) _ _

/-- The sum of reals, in the extended reals. -/
theorem sum_real (s : Finset ι) (a : ι → ℝ) : ∑ t ∈ s, (a t : EReal) = ((∑ t ∈ s, a t : ℝ) : EReal) := by
  classical
  induction s using Finset.induction_on with
  | empty => simp
  | insert i s hi ih => rw [Finset.sum_insert hi, Finset.sum_insert hi, ih, EReal.coe_add]

/-- Division by a real that is not zero is multiplication by its inverse. -/
theorem div_real (x : EReal) {c : ℝ} (hc : c ≠ 0) : Ideal.div x (c : EReal) = x * ((c⁻¹ : ℝ) : EReal) := by
  unfold Ideal.div
  rw [if_neg (by exact_mod_cast hc), EReal.coe_inv]

/-- A greatest element of finitely many reals, found by folding, is one of them (or where the fold
    began). -/
theorem fold_max_mem (s : Finset ι) (f : ι → EReal) (b : EReal) :
    s.fold max b f = b ∨ ∃ t ∈ s, s.fold max b f = f t := by
  classical
  induction s using Finset.induction_on with
  | empty => exact Or.inl rfl
  | insert i s hi ih =>
    rw [Finset.fold_insert hi]
    rcases max_choice (f i) (s.fold max b f) with h | h
    · exact Or.inr ⟨i, Finset.mem_insert_self i s, h⟩
    · rw [h]
      rcases ih with h' | ⟨t, ht, h'⟩
      · exact Or.inl h'
      · exact Or.inr ⟨t, Finset.mem_insert_of_mem ht, h'⟩

/-- The greatest of finitely many reals, at least one of them, is a real. -/
theorem fold_max_real [Fintype ι] [Nonempty ι] (x : ι → ℝ) :
    ∃ M : ℝ, (Finset.univ : Finset ι).fold max ⊥ (fun t => (x t : EReal)) = (M : EReal) := by
  rcases fold_max_mem (Finset.univ : Finset ι) (fun t => (x t : EReal)) ⊥ with h | ⟨t, _, h⟩
  · exfalso
    obtain ⟨i⟩ := ‹Nonempty ι›
    have : (x i : EReal) ≤ (Finset.univ : Finset ι).fold max ⊥ (fun t => (x t : EReal)) :=
      Finset.le_fold_max _ |>.mpr (Or.inr ⟨i, Finset.mem_univ i, le_rfl⟩)
    rw [h] at this
    exact EReal.coe_ne_bot _ (le_bot_iff.mp this)
  · exact ⟨x t, h⟩

/-- Weighted sums with exponential weights: dividing the weighted sum by the sum of the weights is
    weighing by the weights so divided, and a real taken off every score changes nothing. -/
theorem attend [Fintype ι] [Nonempty ι] (x : ι → ℝ) (v : ι → EReal) (M : ℝ) :
    Ideal.div (∑ t, Ideal.exp (x t : EReal) * v t) (∑ t, Ideal.exp (x t : EReal))
      = ∑ t, Ideal.div (Ideal.exp ((x t : EReal) - (M : EReal))) (∑ u, Ideal.exp ((x u : EReal) - (M : EReal))) * v t := by
  have hx : ∀ t, Ideal.exp (x t : EReal) = ((Real.exp (x t) : ℝ) : EReal) := fun t => rfl
  have hM : ∀ t, Ideal.exp ((x t : EReal) - (M : EReal)) = ((Real.exp (x t - M) : ℝ) : EReal) := fun t => by
    rw [← EReal.coe_sub]; rfl
  simp only [hx, hM, sum_real]
  have p1 : 0 < ∑ t, Real.exp (x t) := Finset.sum_pos (fun t _ => Real.exp_pos _) Finset.univ_nonempty
  have p2 : 0 < ∑ t, Real.exp (x t - M) := Finset.sum_pos (fun t _ => Real.exp_pos _) Finset.univ_nonempty
  rw [div_real _ p1.ne', sum_mul_real _ _ (inv_nonneg.mpr p1.le)]
  refine Finset.sum_congr rfl fun t _ => ?_
  rw [div_real _ p2.ne', mul_right_comm, ← EReal.coe_mul, ← EReal.coe_mul]
  congr 2
  have e : ∑ u, Real.exp (x u - M) = (∑ u, Real.exp (x u)) * Real.exp (-M) := by
    rw [Finset.sum_mul]
    exact Finset.sum_congr rfl fun u _ => by rw [sub_eq_add_neg, Real.exp_add]
  rw [e, sub_eq_add_neg, Real.exp_add, mul_inv]
  have := (Real.exp_pos (-M)).ne'
  field_simp

/-- Products of reals summed give a real. -/
theorem dot_real [Fintype ι] {a b : ι → EReal} (ha : ∀ d, ∃ r : ℝ, a d = r) (hb : ∀ d, ∃ r : ℝ, b d = r) :
    ∃ r : ℝ, ∑ d, a d * b d = r := by
  choose f hf using ha
  choose g hg using hb
  exact ⟨∑ d, f d * g d, by rw [← sum_real]; exact Finset.sum_congr rfl fun d _ => by rw [hf, hg, EReal.coe_mul]⟩

/-- The single-precision pattern of a sixteenth. -/
theorem ofBits_sixteenth : Ideal.ofBits .f32 0x3D800000#32 = ((1 / 16 : ℝ) : EReal) := by
  simp [Ideal.ofBits, Ideal.ieee]
  rw [← EReal.coe_mul]
  norm_num

/-- The single-precision pattern of 256. -/
theorem ofBits_256 : Ideal.ofBits .f32 0x43800000#32 = ((256 : ℝ) : EReal) := by
  simp [Ideal.ofBits, Ideal.ieee]
  rw [← EReal.coe_mul]
  norm_num

/-- The square root of 256. -/
theorem sqrt_256 : Ideal.sqrt ((256 : ℝ) : EReal) = ((16 : ℝ) : EReal) := by
  show (if (256 : ℝ) < 0 then ⊥ else (Real.sqrt 256 : EReal)) = _
  rw [if_neg (by norm_num), show (256 : ℝ) = 16 ^ 2 by norm_num, Real.sqrt_sq (by norm_num)]

/-- The single-precision pattern of minus infinity. -/
theorem ofBits_bot : Ideal.ofBits .f32 0xFF800000#32 = ⊥ := by
  simp [Ideal.ofBits, Ideal.ieee]

/-- The single-precision pattern of plus infinity. -/
theorem ofBits_top : Ideal.ofBits .f32 0x7F800000#32 = ⊤ := by
  simp [Ideal.ofBits, Ideal.ieee]

/-- An extended real of absolute value below infinity is a real. -/
theorem real_of_abs_lt (x : EReal) (h : max x (-x) < ⊤) : ∃ r : ℝ, x = r := by
  induction x with
  | bot => simp at h
  | top => simp at h
  | coe r => exact ⟨r, rfl⟩

/-- A sum over 32768 rows is the sum over the 16 blocks of 2048 rows they come in. -/
theorem sum_blocks {M : Type*} [AddCommMonoid M] (f : Fin 32768 → M) :
    ∑ t, f t = ∑ c : Fin 16, ∑ k : Fin 2048, f ⟨2048 * c.val + k.val, by have := c.isLt; have := k.isLt; omega⟩ := by
  rw [← Equiv.sum_comp (finProdFinEquiv (m := 16) (n := 2048)) (fun t : Fin (16 * 2048) => f t), Fintype.sum_prod_type]
  refine Finset.sum_congr rfl fun c _ => Finset.sum_congr rfl fun k _ => congrArg f (Fin.ext ?_)
  exact Nat.add_comm k.val (2048 * c.val)

end Cert.Sums
-- ==== Proof.Share.lean ====
/-
# One block's share, read at an element

Over the extended reals: what one block adds to a row's sum of weights and to a row's weighted sum.
-/
module

public import Idealize.ShloMosaic.Lib.Pointwise
public import Idealize.ShloMosaic.Lib.IdealHost
public import proofs.«01_k».proof.Proof.Body
public import proofs.«01_k».proof.Proof.Sums

@[expose] public section

noncomputable section

namespace Cert.KernelIdeal.RingProof

open Cert.KernelIdeal Cert.KernelIdeal.Gen
open Idealize.ShloMosaic

/-- The weight of key `k` for query row `r`: the exponential of a sixteenth of their product. -/
def wgt {n : ℕ} (q : (⟨2, ![n, 256]⟩ : Shape).Idx → EReal) (K : S2048x256.Idx → EReal) (r : Fin n) (k : Fin 2048) : EReal :=
  Ideal.exp ((∑ d : Fin 256, q (ix2 r d) * K (ix2 k d)) * Ideal.ofBits .f32 0x3D800000#32)

theorem pay3_at (K : S2048x256.Idx → EReal) (q : S512x256.Idx → EReal) (r : Fin 512) (k : Fin 2048) :
    k0_pay3 (F := Ideal) K q (ix2 r k) = wgt q K r k := by
  unfold wgt
  pointwise [k0_pay3, dot_S512x256_S2048x256_S512x2048_1_1_0_0_n_n]

theorem pay4_at (K : S2048x256.Idx → EReal) (q : S512x256.Idx → EReal) (l : S512x1.Idx → EReal) (r : Fin 512) (z : Fin 1) :
    k0_pay4 (F := Ideal) K q l (ix2 r z) = l (ix2 r z) + ∑ k : Fin 2048, wgt q K r k := by
  pointwise [k0_pay4, pay3_at]

theorem pay5_at (K V : S2048x256.Idx → EReal) (q : S512x256.Idx → EReal) (a : S512x256.Idx → EReal) (r : Fin 512) (j : Fin 256) :
    k0_pay5 (F := Ideal) K V q a (ix2 r j) = a (ix2 r j) + ∑ k : Fin 2048, wgt q K r k * V (ix2 k j) := by
  pointwise [k0_pay5, pay3_at, dot_S512x2048_S2048x256_S512x256_1_0_0_1_n_n]

/-! ## A tile of 512 rows -/

section tile
variable (o : ℕ) (iq : ∀ a, (![o, 0] : Fin 2 → ℕ) a + S512x256.size a ≤ S2048x256.size a)
  (il : ∀ a, (![o, 0] : Fin 2 → ℕ) a + S512x1.size a ≤ S2048x1.size a)

theorem q_emb (r : Fin 512) (d : Fin 256) (h : o + r.val < 2048) :
    (qM.access (Rect.unit (s := S2048x256) ![o, 0] S512x256.size iq)).emb (ix2 r d) = ix2 (⟨o + r.val, h⟩ : Fin 2048) d :=
  funext fun a => Fin.ext (by
    match a with
    | ⟨0, _⟩ => show o + 1 * r.val = o + r.val; omega
    | ⟨1, _⟩ => show 0 + 1 * d.val = d.val; omega)

theorem a_emb (r : Fin 512) (d : Fin 256) (h : o + r.val < 2048) :
    (aM.access (Rect.unit (s := S2048x256) ![o, 0] S512x256.size iq)).emb (ix2 r d) = ix2 (⟨o + r.val, h⟩ : Fin 2048) d :=
  funext fun a => Fin.ext (by
    match a with
    | ⟨0, _⟩ => show o + 1 * r.val = o + r.val; omega
    | ⟨1, _⟩ => show 0 + 1 * d.val = d.val; omega)

theorem l_emb (r : Fin 512) (z : Fin 1) (h : o + r.val < 2048) :
    (lM.access (Rect.unit (s := S2048x1) ![o, 0] S512x1.size il)).emb (ix2 r z) = ix2 (⟨o + r.val, h⟩ : Fin 2048) z :=
  funext fun a => Fin.ext (by
    match a with
    | ⟨0, _⟩ => show o + 1 * r.val = o + r.val; omega
    | ⟨1, _⟩ => show 0 + 1 * z.val = z.val; omega)

/-- The weights of a tile's rows are those of the rows it was read from. -/
theorem wgt_tile (Q K : S2048x256.Idx → EReal) (r : Fin 512) (k : Fin 2048) (h : o + r.val < 2048) :
    wgt ((qM.access (Rect.unit (s := S2048x256) ![o, 0] S512x256.size iq)).read (Elt Ideal) Q) K r k = wgt Q K (⟨o + r.val, h⟩ : Fin 2048) k := by
  unfold wgt
  congr 2
  refine Finset.sum_congr rfl fun d _ => ?_
  rw [View.read_apply, q_emb o iq r d h]
  rfl

theorem l_tile (K Q : S2048x256.Idx → EReal) (f : S2048x1.Idx → EReal) (R : Fin 2048) (z : Fin 1) :
    (lM.access (Rect.unit (s := S2048x1) ![o, 0] S512x1.size il)).write (Elt Ideal) f
      (k0_pay4 (F := Ideal) K ((qM.access (Rect.unit (s := S2048x256) ![o, 0] S512x256.size iq)).read (Elt Ideal) Q)
        ((lM.access (Rect.unit (s := S2048x1) ![o, 0] S512x1.size il)).read (Elt Ideal) f)) Finset.univ (ix2 R z)
      = if o ≤ R.val ∧ R.val < o + 512 then f (ix2 R z) + ∑ k : Fin 2048, wgt Q K R k else f (ix2 R z) := by
  split
  · rename_i h
    have hr : R.val - o < 512 := by omega
    have hR : o + (R.val - o) < 2048 := by have := R.isLt; omega
    have e : R = ⟨o + (⟨R.val - o, hr⟩ : Fin 512).val, hR⟩ := Fin.ext (by show R.val = o + (R.val - o); omega)
    have e2 := l_emb o il ⟨R.val - o, hr⟩ z hR
    rw [← e] at e2
    have e3 := View.write_emb_of_mem (Val := Elt Ideal) (v := lM.access (Rect.unit (s := S2048x1) ![o, 0] S512x1.size il)) f
      (k0_pay4 (F := Ideal) K ((qM.access (Rect.unit (s := S2048x256) ![o, 0] S512x256.size iq)).read (Elt Ideal) Q)
        ((lM.access (Rect.unit (s := S2048x1) ![o, 0] S512x1.size il)).read (Elt Ideal) f)) (Finset.mem_univ (ix2 (⟨R.val - o, hr⟩ : Fin 512) z))
    rw [e2] at e3
    refine e3.trans ((cast_eq _ _).trans ?_)
    rw [pay4_at, View.read_apply, e2]
    refine congrArg₂ (· + ·) rfl (Finset.sum_congr rfl fun k _ => ?_)
    rw [wgt_tile o iq Q K _ k hR, ← e]
  · rename_i h
    refine View.write_of_not_mem (Val := Elt Ideal) (v := lM.access (Rect.unit (s := S2048x1) ![o, 0] S512x1.size il)) f _ _ fun hm => h ?_
    obtain ⟨x, _, hx⟩ := Finset.mem_map.mp hm
    have h0 : (Rect.unit (s := S2048x1) ![o, 0] S512x1.size il).emb x = ix2 R z := hx
    have h1 : o + 1 * (x 0).val = R.val := congrArg (fun i : S2048x1.Idx => (i 0).val) h0
    have h2 : (x 0).val < 512 := (x 0).isLt
    omega

theorem a_tile (K V Q : S2048x256.Idx → EReal) (f : S2048x256.Idx → EReal) (R : Fin 2048) (j : Fin 256) :
    (aM.access (Rect.unit (s := S2048x256) ![o, 0] S512x256.size iq)).write (Elt Ideal) f
      (k0_pay5 (F := Ideal) K V ((qM.access (Rect.unit (s := S2048x256) ![o, 0] S512x256.size iq)).read (Elt Ideal) Q)
        ((aM.access (Rect.unit (s := S2048x256) ![o, 0] S512x256.size iq)).read (Elt Ideal) f)) Finset.univ (ix2 R j)
      = if o ≤ R.val ∧ R.val < o + 512 then f (ix2 R j) + ∑ k : Fin 2048, wgt Q K R k * V (ix2 k j) else f (ix2 R j) := by
  split
  · rename_i h
    have hr : R.val - o < 512 := by omega
    have hR : o + (R.val - o) < 2048 := by have := R.isLt; omega
    have e : R = ⟨o + (⟨R.val - o, hr⟩ : Fin 512).val, hR⟩ := Fin.ext (by show R.val = o + (R.val - o); omega)
    have e2 := a_emb o iq ⟨R.val - o, hr⟩ j hR
    rw [← e] at e2
    have e3 := View.write_emb_of_mem (Val := Elt Ideal) (v := aM.access (Rect.unit (s := S2048x256) ![o, 0] S512x256.size iq)) f
      (k0_pay5 (F := Ideal) K V ((qM.access (Rect.unit (s := S2048x256) ![o, 0] S512x256.size iq)).read (Elt Ideal) Q)
        ((aM.access (Rect.unit (s := S2048x256) ![o, 0] S512x256.size iq)).read (Elt Ideal) f)) (Finset.mem_univ (ix2 (⟨R.val - o, hr⟩ : Fin 512) j))
    rw [e2] at e3
    refine e3.trans ((cast_eq _ _).trans ?_)
    rw [pay5_at, View.read_apply, e2]
    refine congrArg₂ (· + ·) rfl (Finset.sum_congr rfl fun k _ => ?_)
    rw [wgt_tile o iq Q K _ k hR, ← e]
  · rename_i h
    refine View.write_of_not_mem (Val := Elt Ideal) (v := aM.access (Rect.unit (s := S2048x256) ![o, 0] S512x256.size iq)) f _ _ fun hm => h ?_
    obtain ⟨x, _, hx⟩ := Finset.mem_map.mp hm
    have h0 : (Rect.unit (s := S2048x256) ![o, 0] S512x256.size iq).emb x = ix2 R j := hx
    have h1 : o + 1 * (x 0).val = R.val := congrArg (fun i : S2048x256.Idx => (i 0).val) h0
    have h2 : (x 0).val < 512 := (x 0).isLt
    omega

end tile

/-! ## All four tiles -/

/-- A whole block adds its weights to every row's sum. -/
theorem lAll_at (K Q : S2048x256.Idx → EReal) (f : S2048x1.Idx → EReal) (R : Fin 2048) (z : Fin 1) :
    lAll (F := Ideal) K Q f (ix2 R z) = f (ix2 R z) + ∑ k : Fin 2048, wgt Q K R k := by
  have hR := R.isLt
  unfold lAll
  rw [show ∀ g, lT3 (F := Ideal) K Q g (ix2 R z) = _ from fun g => l_tile 1536 _ _ K Q g R z,
    show ∀ g, lT2 (F := Ideal) K Q g (ix2 R z) = _ from fun g => l_tile 1024 _ _ K Q g R z,
    show ∀ g, lT1 (F := Ideal) K Q g (ix2 R z) = _ from fun g => l_tile 512 _ _ K Q g R z,
    show ∀ g, lT0 (F := Ideal) K Q g (ix2 R z) = _ from fun g => l_tile 0 _ _ K Q g R z]
  split_ifs <;> first | rfl | omega

/-- A whole block adds its weighted values to every row's weighted sum. -/
theorem aAll_at (K V Q : S2048x256.Idx → EReal) (f : S2048x256.Idx → EReal) (R : Fin 2048) (j : Fin 256) :
    aAll (F := Ideal) K V Q f (ix2 R j) = f (ix2 R j) + ∑ k : Fin 2048, wgt Q K R k * V (ix2 k j) := by
  have hR := R.isLt
  unfold aAll
  rw [show ∀ g, aT3 (F := Ideal) K V Q g (ix2 R j) = _ from fun g => a_tile 1536 _ K V Q g R j,
    show ∀ g, aT2 (F := Ideal) K V Q g (ix2 R j) = _ from fun g => a_tile 1024 _ K V Q g R j,
    show ∀ g, aT1 (F := Ideal) K V Q g (ix2 R j) = _ from fun g => a_tile 512 _ K V Q g R j,
    show ∀ g, aT0 (F := Ideal) K V Q g (ix2 R j) = _ from fun g => a_tile 0 _ K V Q g R j]
  split_ifs <;> first | rfl | omega

end Cert.KernelIdeal.RingProof

end

end
-- ==== Proof.Total.lean ====
/-
# A device's result, read at an element

Every device has taken in the block of every device exactly once, so its result at a row is the
weighted sum over all keys of all devices, divided by the sum of the weights.
-/
module

public import proofs.«01_k».proof.Proof.Share
public import proofs.«01_k».proof.Proof.Launch

@[expose] public section

noncomputable section

namespace Cert.KernelIdeal.RingProof

open Cert.KernelIdeal Cert.KernelIdeal.Gen
open Idealize.ShloMosaic
open Idealize.ShloMosaic.TcCoe

/-! ## The blocks -/

theorem keys_at (kk kv : S2048x256.Idx → EReal) (k : Fin 2048) (d : Fin 256) :
    keys (F := Ideal) (k0_pay32 (F := Ideal) kk kv) (ix2 k d) = kk (ix2 k d) := by
  unfold keys half
  pointwise [k0_pay7, k0_pay32]

theorem vals_at (kk kv : S2048x256.Idx → EReal) (k : Fin 2048) (d : Fin 256) :
    vals (F := Ideal) (k0_pay32 (F := Ideal) kk kv) (ix2 k d) = kv (ix2 k d) := by
  unfold vals half
  pointwise [k0_pay8, k0_pay32]

theorem queries_at (kq : S2048x256.Idx → EReal) : k0_pay35 (F := Ideal) kq = kq := by
  funext i
  rw [eq_ix2 i]
  pointwise [k0_pay35]

theorem zero_l (i : S2048x1.Idx) : k0_pay36 (F := Ideal) i = (0 : EReal) := by
  rw [eq_ix2 i]
  pointwise [k0_pay36]

theorem zero_a (i : S2048x256.Idx) : k0_pay37 (F := Ideal) i = (0 : EReal) := by
  rw [eq_ix2 i]
  pointwise [k0_pay37]

/-! ## The order a device takes the blocks in -/

/-- The devices whose blocks device `c` has taken in after `n` rounds, the latest first. -/
def taken (c : Dev nD) : ℕ → List (Dev nD)
  | 0 => [c]
  | r + 1 => if r + 1 ≤ 7 then (prv false)^[r + 1] c :: (prv true)^[r + 1] c :: taken c r else (prv true)^[r + 1] c :: taken c r

theorem taken_perm (c : Dev nD) : (taken c 8).Perm (List.finRange 16) := by
  revert c; decide +kernel

theorem sum_taken (c : Dev nD) (g : Dev nD → EReal) : ((taken c 8).map g).sum = ∑ e : Dev nD, g e := by
  rw [((taken_perm c).map g).sum_eq]
  exact (List.sum_ofFn (f := g) ▸ by rw [List.ofFn_eq_map])

variable (X : Dev nD → Blk Ideal) (Q : S2048x256.Idx → EReal)

/-- What the block of device `e` adds to the sum of weights of row `R`. -/
def lPart (R : Fin 2048) (e : Dev nD) : EReal := ∑ k : Fin 2048, wgt Q (keys (F := Ideal) (X e)) R k
/-- What the block of device `e` adds to the weighted sum of row `R`. -/
def aPart (R : Fin 2048) (j : Fin 256) (e : Dev nD) : EReal :=
  ∑ k : Fin 2048, wgt Q (keys (F := Ideal) (X e)) R k * vals (F := Ideal) (X e) (ix2 k j)

theorem comp_l (c : Dev nD) (R : Fin 2048) (z : Fin 1) (n : ℕ) :
    (comp (F := Ideal) X Q c (own0 (F := Ideal) Q (X c)) n).2 (ix2 R z) = ((taken c n).map (lPart X Q R)).sum := by
  induction n with
  | zero =>
    show lAll (F := Ideal) _ Q (k0_pay36 (F := Ideal)) (ix2 R z) = _
    rw [lAll_at, zero_l, zero_add]
    simp [taken, lPart]
  | succ r ih =>
    by_cases h : r + 1 ≤ 7
    · have e : comp (F := Ideal) X Q c (own0 (F := Ideal) Q (X c)) (r + 1) = step1 Q (blk X false c (r + 1)) (step1 Q (blk X true c (r + 1)) (comp X Q c (own0 (F := Ideal) Q (X c)) r)) := if_pos h
      rw [e, show taken c (r + 1) = (prv false)^[r + 1] c :: (prv true)^[r + 1] c :: taken c r from if_pos h]
      show lAll (F := Ideal) _ Q (lAll (F := Ideal) _ Q _) (ix2 R z) = _
      rw [lAll_at, lAll_at, ih, List.map_cons, List.sum_cons, List.map_cons, List.sum_cons]
      show _ + lPart X Q R _ + lPart X Q R _ = _
      ac_rfl
    · have e : comp (F := Ideal) X Q c (own0 (F := Ideal) Q (X c)) (r + 1) = step1 Q (blk X true c (r + 1)) (comp X Q c (own0 (F := Ideal) Q (X c)) r) := if_neg h
      rw [e, show taken c (r + 1) = (prv true)^[r + 1] c :: taken c r from if_neg h]
      show lAll (F := Ideal) _ Q _ (ix2 R z) = _
      rw [lAll_at, ih, List.map_cons, List.sum_cons]
      show _ + lPart X Q R _ = _
      ac_rfl

theorem comp_a (c : Dev nD) (R : Fin 2048) (j : Fin 256) (n : ℕ) :
    (comp (F := Ideal) X Q c (own0 (F := Ideal) Q (X c)) n).1 (ix2 R j) = ((taken c n).map (aPart X Q R j)).sum := by
  induction n with
  | zero =>
    show aAll (F := Ideal) _ _ Q (k0_pay37 (F := Ideal)) (ix2 R j) = _
    rw [aAll_at, zero_a, zero_add]
    simp [taken, aPart]
  | succ r ih =>
    by_cases h : r + 1 ≤ 7
    · have e : comp (F := Ideal) X Q c (own0 (F := Ideal) Q (X c)) (r + 1) = step1 Q (blk X false c (r + 1)) (step1 Q (blk X true c (r + 1)) (comp X Q c (own0 (F := Ideal) Q (X c)) r)) := if_pos h
      rw [e, show taken c (r + 1) = (prv false)^[r + 1] c :: (prv true)^[r + 1] c :: taken c r from if_pos h]
      show aAll (F := Ideal) _ _ Q (aAll (F := Ideal) _ _ Q _) (ix2 R j) = _
      rw [aAll_at, aAll_at, ih, List.map_cons, List.sum_cons, List.map_cons, List.sum_cons]
      show _ + aPart X Q R j _ + aPart X Q R j _ = _
      ac_rfl
    · have e : comp (F := Ideal) X Q c (own0 (F := Ideal) Q (X c)) (r + 1) = step1 Q (blk X true c (r + 1)) (comp X Q c (own0 (F := Ideal) Q (X c)) r) := if_neg h
      rw [e, show taken c (r + 1) = (prv true)^[r + 1] c :: taken c r from if_neg h]
      show aAll (F := Ideal) _ _ Q _ (ix2 R j) = _
      rw [aAll_at, ih, List.map_cons, List.sum_cons]
      show _ + aPart X Q R j _ = _
      ac_rfl

theorem pay6_at (a : S2048x256.Idx → EReal) (l : S2048x1.Idx → EReal) (R : Fin 2048) (j : Fin 256) :
    k0_pay6 (F := Ideal) a l (ix2 R j) = Ideal.div (a (ix2 R j)) (l (ix2 R (0 : Fin 1))) := by
  pointwise [k0_pay6]

/-- A device's result: the weighted sum over all devices' blocks over the sum of the weights. -/
theorem result_at (c : Dev nD) (R : Fin 2048) (j : Fin 256) :
    result (F := Ideal) X Q c (ix2 R j) = Ideal.div (∑ e : Dev nD, aPart X Q R j e) (∑ e : Dev nD, lPart X Q R e) := by
  unfold result final
  rw [pay6_at, queries_at, comp_a, comp_l, sum_taken, sum_taken]

/-! ## What the run leaves -/

variable (m : (ℓ : Loc nD τ sig) → Buf (Elt Ideal) ℓ) (g : Dev nD → PrngReg)

/-- A window's one block is its whole array. -/
theorem win0_emb (x : S2048x256.Idx) : (win0_0.blk (0 : Fin 1)).view.emb x = x :=
  funext fun a => Fin.ext (Pipeline.Window.rect_emb_val_of_index_zero win0_0 (0 : Fin 1) a (by fin_cases a <;> rfl) x)
theorem win1_emb (x : S2048x256.Idx) : (win0_1.blk (0 : Fin 1)).view.emb x = x :=
  funext fun a => Fin.ext (Pipeline.Window.rect_emb_val_of_index_zero win0_1 (0 : Fin 1) a (by fin_cases a <;> rfl) x)
theorem win2_emb (x : S2048x256.Idx) : (win0_2.blk (0 : Fin 1)).view.emb x = x :=
  funext fun a => Fin.ext (Pipeline.Window.rect_emb_val_of_index_zero win0_2 (0 : Fin 1) a (by fin_cases a <;> rfl) x)
theorem win3_emb (x : S2048x256.Idx) : (win0_3.blk (0 : Fin 1)).view.emb x = x :=
  funext fun a => Fin.ext (Pipeline.Window.rect_emb_val_of_index_zero win0_3 (0 : Fin 1) a (by fin_cases a <;> rfl) x)

theorem kqOf_eq (c : Dev nD) : kqOf m g c = m ((c : Thread nD τ).loc main_arg0) :=
  funext fun x => (View.read_apply _ x).trans ((cast_eq _ _).trans (congrArg (m ((c : Thread nD τ).loc main_arg0)) (win0_emb x)))
theorem kkOf_eq (c : Dev nD) : kkOf m g c = m ((c : Thread nD τ).loc main_arg1) :=
  funext fun x => (View.read_apply _ x).trans ((cast_eq _ _).trans (congrArg (m ((c : Thread nD τ).loc main_arg1)) (win1_emb x)))
theorem kvOf_eq (c : Dev nD) : kvOf m g c = m ((c : Thread nD τ).loc main_arg2) :=
  funext fun x => (View.read_apply _ x).trans ((cast_eq _ _).trans (congrArg (m ((c : Thread nD τ).loc main_arg2)) (win2_emb x)))

/-- The result array of a device ends at its result. -/
theorem finalA_o (c : Dev nD) : finalA m g c (3 : Fin 4) = result (X0 m g) (kqOf m g c) c := by
  have h : (win0_3.blk (0 : Fin 1)).view.read (Elt Ideal) (finalA m g c (3 : Fin 4)) = result (X0 m g) (kqOf m g c) c := by
    unfold finalA
    rw [show cfg0.N = ((0 : Fin 1) : Fin cfg0.N).val + 1 from rfl, (dats (F := Ideal) m g 0 c).arrAt_succ (3 : Fin 4) (0 : Fin 1),
      show (cfg0.win (3 : Fin 4)).flush (0 : Fin 1) = true from by decide, if_pos rfl]
    exact View.read_write_univ _ _
  rw [← h]
  exact funext fun x => ((View.read_apply _ x).trans ((cast_eq _ _).trans (congrArg (finalA m g c (3 : Fin 4)) (win3_emb x)))).symm

end Cert.KernelIdeal.RingProof

end

end
-- ==== Proof.RefValue.lean ====
/-
# The reference's result, read at an element

For queries and keys that are reals, the reference's softmax-weighted sum is the weighted sum with
plain exponential weights, divided by the sum of those weights.
-/
module

public import Idealize.ShloMosaic.Lib.Pointwise
public import Idealize.ShloMosaic.Lib.IdealHost
public import proofs.«01_k».proof.Proof.Gen.ReferenceIdeal
public import proofs.«01_k».proof.Proof.Gen.ReferenceIdeal.Run
public import proofs.«01_k».proof.Proof.Sums

@[expose] public section

noncomputable section

namespace Cert.ReferenceIdeal.Read

open Cert.ReferenceIdeal Cert.ReferenceIdeal.Gen
open Idealize.ShloMosaic

variable (q k v : FVec Ideal S32768x256 .f32)

/-- The scaled products of queries and keys. -/
def scores : FVec Ideal S32768x32768 .f32 :=
  Host.divf (Host.dotGeneral dot_S32768x256_S256x32768_S32768x32768_1_0_0_1_n_n none q (transpose S256x32768 [1, 0] k transposes_S32768x256_S256x32768_1_0))
    (broadcastInDim S32768x32768 ![] bcast_S_S32768x32768 (id (Host.sqrt (constant S_ .f32 0x43800000#32))))

/-- Each row's greatest score. -/
def greatest : FVec Ideal S32768 .f32 :=
  Host.reduce FloatOps.maximumf (scores q k) (constant S_ .f32 0xFF800000#32) reducesTo_S32768x32768_S32768_d1 h_S_

/-- The exponentials of the scores less the row's greatest. -/
def expo : FVec Ideal S32768x32768 .f32 :=
  Host.exp (subf (scores q k) (broadcastInDim S32768x32768 ![0, 1] bcast_S32768x1_S32768x32768_0_1 (broadcastInDim S32768x1 ![0] bcast_S32768_S32768x1_0 (greatest q k))))

/-- The reference's result. -/
def out : FVec Ideal S32768x256 .f32 :=
  Host.dotGeneral dot_S32768x32768_S32768x256_S32768x256_1_0_0_1_n_n none
    (Host.divf (expo q k) (broadcastInDim S32768x32768 ![0, 1] bcast_S32768x1_S32768x32768_0_1 (broadcastInDim S32768x1 ![0] bcast_S32768_S32768x1_0
      (Host.reduceAdd (expo q k) (constant S_ .f32 0x00000000#32) reducesTo_S32768x32768_S32768_d1 h_S_)))) v

theorem scores_at (R t : Fin 32768) :
    scores q k (ix2 R t) = Ideal.div (∑ d : Fin 256, q (ix2 R d) * k (ix2 t d)) (Ideal.sqrt (Ideal.ofBits .f32 0x43800000#32)) := by
  unfold scores
  pointwise [dot_S32768x256_S256x32768_S32768x32768_1_0_0_1_n_n]
  rfl

theorem greatest_at (R : Fin 32768) :
    greatest q k (ix1 R) = (Finset.univ : Finset (Fin 32768)).fold max ⊥ (fun t => scores q k (ix2 R t)) := by
  unfold greatest
  pointwise [Sums.ofBits_bot]

theorem expo_at (R t : Fin 32768) : expo q k (ix2 R t) = Ideal.exp (scores q k (ix2 R t) - greatest q k (ix1 R)) := by
  unfold expo
  pointwise

theorem out_at (R : Fin 32768) (j : Fin 256) :
    out q k v (ix2 R j) = ∑ t : Fin 32768, Ideal.div (expo q k (ix2 R t)) (∑ u : Fin 32768, expo q k (ix2 R u)) * v (ix2 t j) := by
  unfold out
  pointwise [dot_S32768x32768_S32768x256_S32768x256_1_0_0_1_n_n]

/-- The weight of key `t` for query row `R`, before any scaling. -/
def weight (R t : Fin 32768) : EReal := Ideal.exp ((∑ d : Fin 256, q (ix2 R d) * k (ix2 t d)) * Ideal.ofBits .f32 0x3D800000#32)

theorem out_eq (hq : ∀ i, ∃ r : ℝ, q i = (r : EReal)) (hk : ∀ i, ∃ r : ℝ, k i = (r : EReal)) (R : Fin 32768) (j : Fin 256) :
    out q k v (ix2 R j) = Ideal.div (∑ t : Fin 32768, weight q k R t * v (ix2 t j)) (∑ t : Fin 32768, weight q k R t) := by
  have hx : ∀ t : Fin 32768, ∃ r : ℝ, (∑ d : Fin 256, q (ix2 R d) * k (ix2 t d)) = (r : EReal) := fun t =>
    Sums.dot_real (fun d => hq _) (fun d => hk _)
  choose x hx using hx
  have hs : ∀ t, scores q k (ix2 R t) = ((x t * (1 / 16) : ℝ) : EReal) := fun t => by
    rw [scores_at, hx, Sums.ofBits_256, Sums.sqrt_256, Sums.div_real _ (by norm_num), ← EReal.coe_mul]
    norm_num
  have hw : ∀ t, weight q k R t = Ideal.exp ((x t * (1 / 16) : ℝ) : EReal) := fun t => by
    unfold weight
    rw [hx, Sums.ofBits_sixteenth, ← EReal.coe_mul]
  obtain ⟨M, hM⟩ := Sums.fold_max_real (fun t : Fin 32768 => x t * (1 / 16))
  have hg : greatest q k (ix1 R) = (M : EReal) := by
    rw [greatest_at, ← hM]
    exact congrArg (fun f => (Finset.univ : Finset (Fin 32768)).fold max ⊥ f) (funext hs)
  rw [out_at]
  simp only [expo_at, hs, hw, hg]
  exact (Sums.attend (fun t : Fin 32768 => x t * (1 / 16)) (fun t => v (ix2 t j)) M).symm

end Cert.ReferenceIdeal.Read

end

end
-- ==== Proof.Meet.lean ====
/-
# The two results are the same

Device `c` holds rows `2048 c` to `2048 c + 2047` of every array. With queries and keys that are
reals, its result is those rows of the reference's result.
-/
module

public import Idealize.ShloMosaic.Lib.ReduceAll
public import proofs.«01_k».proof.Pre_finite_qk_KernelIdeal
public import proofs.«01_k».proof.Pre_finite_qk_ReferenceIdeal
public import proofs.«01_k».proof.Proof.Total
public import proofs.«01_k».proof.Proof.RefValue

@[expose] public section

noncomputable section

namespace Cert.Meet

open Idealize.ShloMosaic
open Idealize.ShloMosaic.TcCoe

/-! ## The condition on the queries and keys -/

theorem preKernel : Cert.Pre_finite_qk_KernelIdeal.Facts where
  bcast_S_S2048x256 := by decide
  reducesTo_S2048x256_S_d0_1 := by decide
  h_S_ := by decide

theorem preReference : Cert.Pre_finite_qk_ReferenceIdeal.Facts where
  bcast_S_S32768x256 := by decide
  reducesTo_S32768x256_S_d0_1 := by decide
  h_S_ := by decide

/-- Where the condition holds, every query and every key is a real. -/
theorem real_of_pre [Cert.Pre_finite_qk_KernelIdeal.Facts] (q k v : (⟨2, ![2048, 256]⟩ : Shape).Idx → EReal)
    (h : Cert.Pre_finite_qk_KernelIdeal.fn (F := Ideal) q k v = fun _ => 1#1) :
    (∀ i, ∃ r : ℝ, q i = (r : EReal)) ∧ (∀ i, ∃ r : ℝ, k i = (r : EReal)) := by
  have h0 := congrFun h (ValueIdx.ix0)
  have h1 := IntOp.andi_eq_one.mp h0
  have one : ∀ a : EReal, Ideal.cmp .olt (max a (-a)) (Ideal.ofBits .f32 0x7F800000#32) = 1#1 → ∃ r : ℝ, a = (r : EReal) := fun a ha => by
    rw [Sums.ofBits_top] at ha
    refine Sums.real_of_abs_lt a ?_
    by_contra hn
    have : Ideal.cmp .olt (max a (-a)) ⊤ = 0#1 := by
      show BitVec.ofBool (decide (max a (-a) < ⊤)) = 0#1
      rw [decide_eq_false hn]; rfl
    rw [this] at ha
    exact absurd ha (by decide)
  haveI : Subsingleton (Cert.Pre_finite_qk_KernelIdeal.S_).Idx := ⟨fun a b => funext fun d => d.elim0⟩
  exact ⟨fun i => one _ (Host.reduce_andi_all _ _ _ _ _ h1.1 i), fun i => one _ (Host.reduce_andi_all _ _ _ _ _ h1.2 i)⟩

/-! ## Rows of a block and rows of the whole -/

/-- Block `c` of a whole array. -/
abbrev cut (c : Fin 16) (a : (⟨2, ![32768, 256]⟩ : Shape).Idx → EReal) : (⟨2, ![2048, 256]⟩ : Shape).Idx → EReal :=
  Layout.block ⟨2, ![2048, 256]⟩ ⟨2, ![32768, 256]⟩ 0 16 c a

/-- Row `r` of block `c`. -/
def row (c : Fin 16) (r : Fin 2048) : Fin 32768 := ⟨2048 * c.val + r.val, by have := c.isLt; have := r.isLt; omega⟩

theorem block_row (a : (⟨2, ![32768, 256]⟩ : Shape).Idx → EReal) (c : Fin 16) (r : Fin 2048) (j : Fin 256) :
    cut c a (ix2 r j) = a (ix2 (row c r) j) := by
  show a (Layout.Tiles.idx _ c (ix2 r j)) = _
  refine congrArg a (funext fun b => Fin.ext ?_)
  match b with
  | ⟨0, _⟩ => show c.val * 2048 + r.val = 2048 * c.val + r.val; omega
  | ⟨1, _⟩ => rfl

theorem exists_row (R : Fin 32768) : ∃ c r, R = row c r :=
  ⟨⟨R.val / 2048, by have := R.isLt; omega⟩, ⟨R.val % 2048, by omega⟩, Fin.ext (by show R.val = 2048 * (R.val / 2048) + R.val % 2048; omega)⟩

theorem real_of_blocks (a : (⟨2, ![32768, 256]⟩ : Shape).Idx → EReal)
    (h : ∀ c : Fin 16, ∀ i, ∃ r : ℝ, cut c a i = (r : EReal)) :
    ∀ i, ∃ r : ℝ, a i = (r : EReal) := fun i => by
  rw [eq_ix2 i]
  obtain ⟨c, r, e⟩ := exists_row (i 0)
  obtain ⟨x, hx⟩ := h c (ix2 r (i 1))
  rw [e]
  exact ⟨x, (block_row a c r (i 1)).symm.trans hx⟩

/-! ## The results -/

section results
variable (a0 a1 a2 : (⟨2, ![32768, 256]⟩ : Shape).Idx → EReal)

/-- The weight of a key for a query row is the same in the whole arrays. -/
theorem wgt_row (c e : Fin 16) (V : (⟨2, ![2048, 256]⟩ : Shape).Idx → EReal) (r k : Fin 2048) :
    KernelIdeal.RingProof.wgt (cut c a0) (KernelIdeal.RingProof.keys (F := Ideal) (KernelIdeal.Gen.k0_pay32 (F := Ideal) (cut e a1) V)) r k
      = ReferenceIdeal.Read.weight a0 a1 (row c r) (row e k) := by
  unfold KernelIdeal.RingProof.wgt ReferenceIdeal.Read.weight
  congr 2
  refine Finset.sum_congr rfl fun d _ => ?_
  rw [KernelIdeal.RingProof.keys_at, block_row, block_row]

theorem result_row (h0 : ∀ i, ∃ r : ℝ, a0 i = (r : EReal)) (h1 : ∀ i, ∃ r : ℝ, a1 i = (r : EReal)) (c : Fin 16) :
    KernelIdeal.RingProof.result (F := Ideal) (fun e => KernelIdeal.Gen.k0_pay32 (F := Ideal) (cut e a1) (cut e a2)) (cut c a0) c
      = cut c (ReferenceIdeal.Read.out a0 a1 a2) := by
  funext i
  obtain ⟨r, j, rfl⟩ : ∃ (r : Fin 2048) (j : Fin 256), i = ix2 r j := ⟨i 0, i 1, eq_ix2 i⟩
  rw [KernelIdeal.RingProof.result_at]
  refine Eq.trans ?_ (block_row _ c r j).symm
  rw [ReferenceIdeal.Read.out_eq a0 a1 a2 h0 h1, Sums.sum_blocks, Sums.sum_blocks]
  refine congrArg₂ Ideal.div (Finset.sum_congr rfl fun e _ => ?_) (Finset.sum_congr rfl fun e _ => ?_)
  · unfold KernelIdeal.RingProof.aPart
    refine Finset.sum_congr rfl fun k _ => ?_
    rw [wgt_row, KernelIdeal.RingProof.vals_at, block_row]
    rfl
  · unfold KernelIdeal.RingProof.lPart
    refine Finset.sum_congr rfl fun k _ => ?_
    rw [wgt_row]
    rfl

end results

/-- The kernel's run leaves on every device its rows of the reference's result. -/
theorem finalA_row (m : (ℓ : Loc KernelIdeal.nD KernelIdeal.τ KernelIdeal.sig) → Buf (Elt Ideal) ℓ) (g : Dev KernelIdeal.nD → PrngReg)
    (a0 a1 a2 : (⟨2, ![32768, 256]⟩ : Shape).Idx → EReal)
    (h0 : ∀ i, ∃ r : ℝ, a0 i = (r : EReal)) (h1 : ∀ i, ∃ r : ℝ, a1 i = (r : EReal))
    (e0 : ∀ c : Dev KernelIdeal.nD, m ((c : Thread KernelIdeal.nD KernelIdeal.τ).loc KernelIdeal.main_arg0) = cut c a0)
    (e1 : ∀ c : Dev KernelIdeal.nD, m ((c : Thread KernelIdeal.nD KernelIdeal.τ).loc KernelIdeal.main_arg1) = cut c a1)
    (e2 : ∀ c : Dev KernelIdeal.nD, m ((c : Thread KernelIdeal.nD KernelIdeal.τ).loc KernelIdeal.main_arg2) = cut c a2)
    (c : Dev KernelIdeal.nD) :
    KernelIdeal.RingProof.finalA (F := Ideal) m g c (3 : Fin 4)
      = cut c (ReferenceIdeal.Read.out a0 a1 a2) := by
  rw [KernelIdeal.RingProof.finalA_o]
  have hX : KernelIdeal.RingProof.X0 (F := Ideal) m g = fun e => KernelIdeal.Gen.k0_pay32 (F := Ideal)
      (cut e a1) (cut e a2) :=
    funext fun e => by
      unfold KernelIdeal.RingProof.X0
      rw [KernelIdeal.RingProof.kkOf_eq, KernelIdeal.RingProof.kvOf_eq, e1, e2]
  rw [hX, KernelIdeal.RingProof.kqOf_eq, e0]
  exact result_row a0 a1 a2 h0 h1 c

end Cert.Meet

end

end
-- ==== Proof.lean ====
module

public import proofs.«01_k».proof.Defs
public import proofs.«01_k».proof.Proof.Launch
public import proofs.«01_k».proof.Proof.PrintedLaunch
public import proofs.«01_k».proof.Proof.Meet
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, leaves its arguments alone, and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run m g) fun r h => ⟨fun c => (h c).2, sem_eq_zero_of_no_sems (by decide) r.2⟩

/-- Where every query and key is a real, every device ends with its rows of the reference's result. -/
theorem algebraic : Cert.algebraic_KernelIdeal_ReferenceIdeal_pre_finite_qk_KernelIdeal (hKernelIdeal := Cert.KernelIdeal.Gen.facts)
    (hReferenceIdeal := Cert.ReferenceIdeal.Gen.facts) (hPre_finite_qk_KernelIdeal := Cert.Meet.preKernel) := by
  intro m g m' g' hp he
  haveI := Cert.Meet.preKernel
  have hr := fun c => Cert.Meet.real_of_pre _ _ _ (hp c)
  have h0 := Cert.Meet.real_of_blocks (m' (((0 : Dev Cert.ReferenceIdeal.nD).tc : Thread Cert.ReferenceIdeal.nD Cert.ReferenceIdeal.τ).loc Cert.ReferenceIdeal.main_arg0))
    fun c i => by
      have h := (hr c).1 i
      rw [(he c).1] at h
      exact h
  have h1 := Cert.Meet.real_of_blocks (m' (((0 : Dev Cert.ReferenceIdeal.nD).tc : Thread Cert.ReferenceIdeal.nD Cert.ReferenceIdeal.τ).loc Cert.ReferenceIdeal.main_arg1))
    fun c i => by
      have h := (hr c).2 i
      rw [(he c).2.1] at h
      exact h
  refine ⟨Cert.ReferenceIdeal.Read.out
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact θ_run_mono (Cert.KernelIdeal.RingProof.run_main m g) fun r h c =>
      ⟨(h.1 c (3 : Fin 4)).trans (Cert.Meet.finalA_row m g _ _ _ h0 h1 (fun c => (he c).1) (fun c => (he c).2.1) (fun c => (he c).2.2) c),
       (h.1 c (0 : Fin 4)).trans (Cert.KernelIdeal.RingProof.finalA_q m g c),
       (h.1 c (1 : Fin 4)).trans (Cert.KernelIdeal.RingProof.finalA_k m g c),
       (h.1 c (2 : Fin 4)).trans (Cert.KernelIdeal.RingProof.finalA_v m g c)⟩
  · exact θ_run_mono (Cert.ReferenceIdeal.Value.run m' g') fun r h => h 0

theorem claim : Cert.Claim := ⟨Cert.Kernel.Gen.facts, Cert.KernelIdeal.Gen.facts, Cert.ReferenceIdeal.Gen.facts,
  Cert.Meet.preKernel, Cert.Meet.preReference,
  fun m g _ => Cert.Kernel.RingProof.run_frame m g,
  fun m g _ => Cert.KernelIdeal.RingProof.run_frame m g,
  fun m g _ => Cert.KernelIdeal.RingProof.run_frame m g,
  fun m g _ => reference_frame m g,
  fun m g _ => reference_frame m g,
  trivial,
  algebraic⟩

end Cert.Proof

end
